-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x32x1024 : Shape := ⟨3, ![16, 32, 1024]⟩
abbrev S64x64 : Shape := ⟨2, ![64, 64]⟩
abbrev S2112x1024 : Shape := ⟨2, ![2112, 1024]⟩
abbrev S2112 : Shape := ⟨1, ![2112]⟩
abbrev S32x1024 : Shape := ⟨2, ![32, 1024]⟩
abbrev S32 : Shape := ⟨1, ![32]⟩
abbrev S64x1024 : Shape := ⟨2, ![64, 1024]⟩
abbrev S64 : Shape := ⟨1, ![64]⟩
abbrev S_ : Shape := ⟨0, ![]⟩

class Facts : Prop where
  bcast_S_S16x32x1024 : S_.BroadcastsInDim S16x32x1024 (![] : Fin 0 → Fin S16x32x1024.rank)
  reducesTo_S16x32x1024_S_d0_1_2 : S16x32x1024.ReducesTo [0, 1, 2] S_
  h_S_ : 0 < S_.numel
  bcast_S_S2112x1024 : S_.BroadcastsInDim S2112x1024 (![] : Fin 0 → Fin S2112x1024.rank)
  reducesTo_S2112x1024_S_d0_1 : S2112x1024.ReducesTo [0, 1] S_
  bcast_S_S2112 : S_.BroadcastsInDim S2112 (![] : Fin 0 → Fin S2112.rank)
  reducesTo_S2112_S_d0 : S2112.ReducesTo [0] S_
  bcast_S_S32x1024 : S_.BroadcastsInDim S32x1024 (![] : Fin 0 → Fin S32x1024.rank)
  reducesTo_S32x1024_S_d0_1 : S32x1024.ReducesTo [0, 1] S_
  bcast_S_S32 : S_.BroadcastsInDim S32 (![] : Fin 0 → Fin S32.rank)
  reducesTo_S32_S_d0 : S32.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x1024 .f32) (main_arg9 : FVec F S64 .f32) (main_v33 : IVec S_ 1) : IVec S_ 1 :=
  let main_v34 : FVec F S64x1024 .f32 := Host.absf main_arg8
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S2112 .f32) (main_arg6 : FVec F S32x1024 .f32) (main_arg7 : FVec F S32 .f32) (main_arg8 : FVec F S64x1024 .f32) (main_arg9 : FVec F S64 .f32) (main_v13 : IVec S_ 1) (main_v16 : IVec S2112x1024 1) : IVec S_ 1 :=
  let main_c_5 : IVec S_ 1 := constantI S_ 1 1#1
  let main_v17 : IVec S_ 1 := (fun x v => Host.reduce IntOp.andi x v reducesTo_S2112x1024_S_d0_1 h_S_) main_v16 main_c_5
  let main_v18 : IVec S_ 1 := andi main_v13 main_v17
  let main_v19 : FVec F S2112 .f32 := Host.absf main_arg5
  let main_cst_6 : FVec F S_ .f32 := constant S_ .f32 0x7F800000#32
  let main_v20 : FVec F S2112 .f32 := broadcastInDim S2112 ![] bcast_S_S2112 main_cst_6
  let main_v21 : IVec S2112 1 := cmpf .olt main_v19 main_v20
  let main_c_7 : IVec S_ 1 := constantI S_ 1 1#1
  let main_v22 : IVec S_ 1 := (fun x v => Host.reduce IntOp.andi x v reducesTo_S2112_S_d0 h_S_) main_v21 main_c_7
  let main_v23 : IVec S_ 1 := andi main_v18 main_v22
  let main_v24 : FVec F S32x1024 .f32 := Host.absf main_arg6
  let main_cst_8 : FVec F S_ .f32 := constant S_ .f32 0x7F800000#32
  let main_v25 : FVec F S32x1024 .f32 := broadcastInDim S32x1024 ![] bcast_S_S32x1024 main_cst_8
  let main_v26 : IVec S32x1024 1 := cmpf .olt main_v24 main_v25
  let main_c_9 : IVec S_ 1 := constantI S_ 1 1#1
  let main_v27 : IVec S_ 1 := (fun x v => Host.reduce IntOp.andi x v reducesTo_S32x1024_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S16x32x1024 .f32) (main_arg1 : FVec F S64x64 .f32) (main_arg2 : FVec F S2112x1024 .f32) (main_arg3 : FVec F S2112 .f32) (main_arg4 : FVec F S2112x1024 .f32) (main_arg5 : FVec F S2112 .f32) (main_arg6 : FVec F S32x1024 .f32) (main_arg7 : FVec F S32 .f32) (main_arg8 : FVec F S64x1024 .f32) (main_arg9 : FVec F S64 .f32) : IVec S_ 1 :=
  let main_v0 : FVec F S16x32x1024 .f32 := Host.absf main_arg0
  let main_cst : FVec F S_ .f32 := constant S_ .f32 0x7F800000#32
  let main_v1 : FVec F S16x32x1024 .f32 := broadcastInDim S16x32x1024 ![] bcast_S_S16x32x1024 main_cst
  let main_v2 : IVec S16x32x1024 1 := cmpf .olt main_v0 main_v1
  let main_c : IVec S_ 1 := constantI S_ 1 1#1
  let main_v3 : IVec S_ 1 := (fun x v => Host.reduce IntOp.andi x v reducesTo_S16x32x1024_S_d0_1_2 h_S_) main_v2 main_c
  let main_v4 : FVec F S2112x1024 .f32 := Host.absf main_arg2
  let main_cst_0 : FVec F S_ .f32 := constant S_ .f32 0x7F800000#32
  let main_v5 : FVec F S2112x1024 .f32 := broadcastInDim S2112x1024 ![] bcast_S_S2112x1024 main_cst_0
  let main_v6 : IVec S2112x1024 1 := cmpf .olt main_v4 main_v5
  let main_c_1 : IVec S_ 1 := constantI S_ 1 1#1
  let main_v7 : IVec S_ 1 := (fun x v => Host.reduce IntOp.andi x v reducesTo_S2112x1024_S_d0_1 h_S_) main_v6 main_c_1
  let main_v8 : IVec S_ 1 := andi main_v3 main_v7
  let main_v9 : FVec F S2112 .f32 := Host.absf main_arg3
  let main_cst_2 : FVec F S_ .f32 := constant S_ .f32 0x7F800000#32
  let main_v10 : FVec F S2112 .f32 := broadcastInDim S2112 ![] bcast_S_S2112 main_cst_2
  let main_v11 : IVec S2112 1 := cmpf .olt main_v9 main_v10
  let main_c_3 : IVec S_ 1 := constantI S_ 1 1#1
  let main_v12 : IVec S_ 1 := (fun x v => Host.reduce IntOp.andi x v reducesTo_S2112_S_d0 h_S_) main_v11 main_c_3
  let main_v13 : IVec S_ 1 := andi main_v8 main_v12
  let main_v14 : FVec F S2112x1024 .f32 := Host.absf main_arg4
  let main_cst_4 : FVec F S_ .f32 := constant S_ .f32 0x7F800000#32
  let main_v15 : FVec F S2112x1024 .f32 := broadcastInDim S2112x1024 ![] bcast_S_S2112x1024 main_cst_4
  let main_v16 : IVec S2112x1024 1 := cmpf .olt main_v14 main_v15
  fn_part1 (F := F) main_arg5 main_arg6 main_arg7 main_arg8 main_arg9 main_v13 main_v16
-- ==== Kernel.lean ====
abbrev S16x32x1024 : Shape := ⟨3, ![16, 32, 1024]⟩
abbrev S64x64 : Shape := ⟨2, ![64, 64]⟩
abbrev S2112x1024 : Shape := ⟨2, ![2112, 1024]⟩
abbrev S2112 : Shape := ⟨1, ![2112]⟩
abbrev S32x1024 : Shape := ⟨2, ![32, 1024]⟩
abbrev S32 : Shape := ⟨1, ![32]⟩
abbrev S64x1024 : Shape := ⟨2, ![64, 1024]⟩
abbrev S64 : Shape := ⟨1, ![64]⟩
abbrev S32x16x1024 : Shape := ⟨3, ![32, 16, 1024]⟩
abbrev S512x1024 : Shape := ⟨2, ![512, 1024]⟩
abbrev S1x2112 : Shape := ⟨2, ![1, 2112]⟩
abbrev S512x2112 : Shape := ⟨2, ![512, 2112]⟩
abbrev S1x32 : Shape := ⟨2, ![1, 32]⟩
abbrev S1x64 : Shape := ⟨2, ![1, 64]⟩
abbrev S512x32 : Shape := ⟨2, ![512, 32]⟩
abbrev S512x64 : Shape := ⟨2, ![512, 64]⟩
abbrev S512x33 : Shape := ⟨2, ![512, 33]⟩
abbrev S8x4x16x33 : Shape := ⟨4, ![8, 4, 16, 33]⟩
abbrev S8x1x2112 : Shape := ⟨3, ![8, 1, 2112]⟩
abbrev S8x4x16x64 : Shape := ⟨4, ![8, 4, 16, 64]⟩
abbrev S8x4x528x64 : Shape := ⟨4, ![8, 4, 528, 64]⟩
abbrev S32x16x64 : Shape := ⟨3, ![32, 16, 64]⟩
abbrev S16x32x64 : Shape := ⟨3, ![16, 32, 64]⟩
abbrev S512x256 : Shape := ⟨2, ![512, 256]⟩
abbrev S2112x256 : Shape := ⟨2, ![2112, 256]⟩
abbrev S512 : Shape := ⟨1, ![512]⟩
abbrev S512x1 : Shape := ⟨2, ![512, 1]⟩
abbrev S1x4x16x33 : Shape := ⟨4, ![1, 4, 16, 33]⟩
abbrev S1x1x2112 : Shape := ⟨3, ![1, 1, 2112]⟩
abbrev S1x4x16x64 : Shape := ⟨4, ![1, 4, 16, 64]⟩
abbrev S1x4x528x64 : Shape := ⟨4, ![1, 4, 528, 64]⟩
abbrev S64x33 : Shape := ⟨2, ![64, 33]⟩
abbrev S2112x64 : Shape := ⟨2, ![2112, 64]⟩
abbrev S33x528 : Shape := ⟨2, ![33, 528]⟩
abbrev S64x528 : Shape := ⟨2, ![64, 528]⟩
abbrev S64x2112 : Shape := ⟨2, ![64, 2112]⟩

abbrev nBuf : Space → Nat
  | .hbm => 30
  | .vmem => 33
  | .smem => 0
  | _ => 0

abbrev bufTy : (tb : Table) → Fin (tcTables nBuf tb) → BufTy
  | .hbm, ⟨0, _⟩ => ⟨S16x32x1024, .f32⟩
  | .hbm, ⟨1, _⟩ => ⟨S64x64, .f32⟩
  | .hbm, ⟨2, _⟩ => ⟨S2112x1024, .f32⟩
  | .hbm, ⟨3, _⟩ => ⟨S2112, .f32⟩
  | .hbm, ⟨4, _⟩ => ⟨S2112x1024, .f32⟩
  | .hbm, ⟨5, _⟩ => ⟨S2112, .f32⟩
  | .hbm, ⟨6, _⟩ => ⟨S32x1024, .f32⟩
  | .hbm, ⟨7, _⟩ => ⟨S32, .f32⟩
  | .hbm, ⟨8, _⟩ => ⟨S64x1024, .f32⟩
  | .hbm, ⟨9, _⟩ => ⟨S64, .f32⟩
  | .hbm, ⟨10, _⟩ => ⟨S32x16x1024, .f32⟩
  | .hbm, ⟨11, _⟩ => ⟨S512x1024, .f32⟩
  | .hbm, ⟨12, _⟩ => ⟨S1x2112, .f32⟩
  | .hbm, ⟨13, _⟩ => ⟨S1x2112, .f32⟩
  | .hbm, ⟨14, _⟩ => ⟨S512x2112, .f32⟩
  | .hbm, ⟨15, _⟩ => ⟨S512x2112, .f32⟩
  | .hbm, ⟨16, _⟩ => ⟨S1x32, .f32⟩
  | .hbm, ⟨17, _⟩ => ⟨S1x64, .f32⟩
  | .hbm, ⟨18, _⟩ => ⟨S512x32, .f32⟩
  | .hbm, ⟨19, _⟩ => ⟨S512x64, .f32⟩
  | .hbm, ⟨20, _⟩ => ⟨S512x33, .f32⟩
  | .hbm, ⟨21, _⟩ => ⟨S512x33, .f32⟩
  | .hbm, ⟨22, _⟩ => ⟨S8x4x16x33, .f32⟩
  | .hbm, ⟨23, _⟩ => ⟨S8x1x2112, .f32⟩
  | .hbm, ⟨24, _⟩ => ⟨S8x4x16x64, .f32⟩
  | .hbm, ⟨25, _⟩ => ⟨S8x4x528x64, .f32⟩
  | .hbm, ⟨26, _⟩ => ⟨S8x4x528x64, .f32⟩
  | .hbm, ⟨27, _⟩ => ⟨S8x4x16x64, .f32⟩
  | .hbm, ⟨28, _⟩ => ⟨S32x16x64, .f32⟩
  | .hbm, ⟨29, _⟩ => ⟨S16x32x64, .f32⟩
  | .local _ .vmem, ⟨0, _⟩ => ⟨S512x256, .f32⟩
  | .local _ .vmem, ⟨1, _⟩ => ⟨S512x256, .f32⟩
  | .local _ .vmem, ⟨2, _⟩ => ⟨S2112x256, .f32⟩
  | .local _ .vmem, ⟨3, _⟩ => ⟨S2112x256, .f32⟩
  | .local _ .vmem, ⟨4, _⟩ => ⟨S1x2112, .f32⟩
  | .local _ .vmem, ⟨5, _⟩ => ⟨S2112x256, .f32⟩
  | .local _ .vmem, ⟨6, _⟩ => ⟨S2112x256, .f32⟩
  | .local _ .vmem, ⟨7, _⟩ => ⟨S1x2112, .f32⟩
  | .local _ .vmem, ⟨8, _⟩ => ⟨S512x2112, .f32⟩
  | .local _ .vmem, ⟨9, _⟩ => ⟨S512x2112, .f32⟩
  | .local _ .vmem, ⟨10, _⟩ => ⟨S512x1024, .f32⟩
  | .local _ .vmem, ⟨11, _⟩ => ⟨S32x1024, .f32⟩
  | .local _ .vmem, ⟨12, _⟩ => ⟨S1x32, .f32⟩
  | .local _ .vmem, ⟨13, _⟩ => ⟨S64x1024, .f32⟩
  | .local _ .vmem, ⟨14, _⟩ => ⟨S1x64, .f32⟩
  | .local _ .vmem, ⟨15, _⟩ => ⟨S512x32, .f32⟩
  | .local _ .vmem, ⟨16, _⟩ => ⟨S512x64, .f32⟩
  | .local _ .vmem, ⟨17, _⟩ => ⟨S512x32, .f32⟩
  | .local _ .vmem, ⟨18, _⟩ => ⟨S512x33, .f32⟩
  | .local _ .vmem, ⟨19, _⟩ => ⟨S512x33, .f32⟩
  | .local _ .vmem, ⟨20, _⟩ => ⟨S1x4x16x33, .f32⟩
  | .local _ .vmem, ⟨21, _⟩ => ⟨S1x4x16x33, .f32⟩
  | .local _ .vmem, ⟨22, _⟩ => ⟨S1x1x2112, .f32⟩
  | .local _ .vmem, ⟨23, _⟩ => ⟨S1x1x2112, .f32⟩
  | .local _ .vmem, ⟨24, _⟩ => ⟨S1x4x16x64, .f32⟩
  | .local _ .vmem, ⟨25, _⟩ => ⟨S1x4x16x64, .f32⟩
  | .local _ .vmem, ⟨26, _⟩ => ⟨S1x4x528x64, .f32⟩
  | .local _ .vmem, ⟨27, _⟩ => ⟨S1x4x528x64, .f32⟩
  | .local _ .vmem, ⟨28, _⟩ => ⟨S1x4x528x64, .f32⟩
  | .local _ .vmem, ⟨29, _⟩ => ⟨S1x4x528x64, .f32⟩
  | .local _ .vmem, ⟨30, _⟩ => ⟨S64x64, .f32⟩
  | .local _ .vmem, ⟨31, _⟩ => ⟨S1x4x16x64, .f32⟩
  | .local _ .vmem, ⟨32, _⟩ => ⟨S1x4x16x64, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4_0 : Ref sig .tc := ⟨.hbm, 14, rfl⟩
abbrev main_call0_v4_1 : Ref sig .tc := ⟨.hbm, 15, rfl⟩
abbrev main_call0_v5 : Ref sig .tc := ⟨.hbm, 16, rfl⟩
abbrev main_call0_v6 : Ref sig .tc := ⟨.hbm, 17, rfl⟩
abbrev main_call0_v7_0 : Ref sig .tc := ⟨.hbm, 18, rfl⟩
abbrev main_call0_v7_1 : Ref sig .tc := ⟨.hbm, 19, rfl⟩
abbrev main_call0_v8_0 : Ref sig .tc := ⟨.hbm, 20, rfl⟩
abbrev main_call0_v8_1 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_v0 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc2_sem0_0 : DmaSem sig := 17
abbrev cc2_sem1_0 : DmaSem sig := 18
abbrev cc2_sem2_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem6_0 : DmaSem sig := 31
abbrev cc3_sem6_1 : DmaSem sig := 32

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_6 : BitVec 32 := 0#32
  let v8 : BitVec 1 := Scalar.cmpi .ne v7 c0_i32_6
  v8

def k0_cond2 (i : grid0.Coords) : BitVec 1 :=
  let arg0 : BitVec 32 := BitVec.ofNat 32 (i 0).val
  let c0_i32_7 : BitVec 32 := 0#32
  let v9 : BitVec 1 := Scalar.cmpi .ne arg0 c0_i32_7
  let v10 : BitVec 32 := Scalar.extui v9
  let c0_i32_8 : BitVec 32 := 0#32
  let v11 : BitVec 1 := Scalar.cmpi .ne v10 c0_i32_8
  v11

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2112x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2112x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2112 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2112 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := .none

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := .none

abbrev stage2_0 : Fin 1 → Memref sig .tc .vmem S512x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S512x33 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S512x33 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_4 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x4x16x33 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x2112 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4x16x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x4x528x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x4x528x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x4x16x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== ReferenceIdeal.lean ====
abbrev S16x32x1024 : Shape := ⟨3, ![16, 32, 1024]⟩
abbrev S64x64 : Shape := ⟨2, ![64, 64]⟩
abbrev S2112x1024 : Shape := ⟨2, ![2112, 1024]⟩
abbrev S2112 : Shape := ⟨1, ![2112]⟩
abbrev S32x1024 : Shape := ⟨2, ![32, 1024]⟩
abbrev S32 : Shape := ⟨1, ![32]⟩
abbrev S64x1024 : Shape := ⟨2, ![64, 1024]⟩
abbrev S64 : Shape := ⟨1, ![64]⟩
abbrev S32x1 : Shape := ⟨2, ![32, 1]⟩
abbrev S32x33x64x64 : Shape := ⟨4, ![32, 33, 64, 64]⟩
abbrev S_ : Shape := ⟨0, ![]⟩
abbrev S16x32x64 : Shape := ⟨3, ![16, 32, 64]⟩
abbrev S1x32x1024 : Shape := ⟨3, ![1, 32, 1024]⟩
abbrev S1024x32 : Shape := ⟨2, ![1024, 32]⟩
abbrev S32x32 : Shape := ⟨2, ![32, 32]⟩
abbrev S1x32 : Shape := ⟨2, ![1, 32]⟩
abbrev S32x4 : Shape := ⟨2, ![32, 4]⟩
abbrev S32x5 : Shape := ⟨2, ![32, 5]⟩
abbrev S1024x2112 : Shape := ⟨2, ![1024, 2112]⟩
abbrev S32x2112 : Shape := ⟨2, ![32, 2112]⟩
abbrev S1x2112 : Shape := ⟨2, ![1, 2112]⟩
abbrev S32x33x64 : Shape := ⟨3, ![32, 33, 64]⟩
abbrev S32x33x64x1 : Shape := ⟨4, ![32, 33, 64, 1]⟩
abbrev S32x33x1x64 : Shape := ⟨4, ![32, 33, 1, 64]⟩
abbrev S32x5x1x1 : Shape := ⟨4, ![32, 5, 1, 1]⟩
abbrev S32x5x1 : Shape := ⟨3, ![32, 5, 1]⟩
abbrev S1 : Shape := ⟨1, ![1]⟩
abbrev S1x1x1 : Shape := ⟨3, ![1, 1, 1]⟩
abbrev S32x5x64x64 : Shape := ⟨4, ![32, 5, 64, 64]⟩
abbrev S32x5x2 : Shape := ⟨3, ![32, 5, 2]⟩
abbrev S32x4x1x1 : Shape := ⟨4, ![32, 4, 1, 1]⟩
abbrev S32x4x1 : Shape := ⟨3, ![32, 4, 1]⟩
abbrev S32x4x64x64 : Shape := ⟨4, ![32, 4, 64, 64]⟩
abbrev S32x64x64 : Shape := ⟨3, ![32, 64, 64]⟩
abbrev S32x1x64x64 : Shape := ⟨4, ![32, 1, 64, 64]⟩
abbrev S1024x64 : Shape := ⟨2, ![1024, 64]⟩
abbrev S32x64 : Shape := ⟨2, ![32, 64]⟩
abbrev S1x64 : Shape := ⟨2, ![1, 64]⟩
abbrev S1x32x64 : Shape := ⟨3, ![1, 32, 64]⟩

abbrev nBuf : Space → Nat
  | .hbm => 171
  | .vmem => 0
  | .smem => 0
  | _ => 0

abbrev hbmTy0_0 (i : Nat) : BufTy := match i % 128 with
  | 0 => ⟨S16x32x1024, .f32⟩
  | 1 => ⟨S64x64, .f32⟩
  | 2 => ⟨S2112x1024, .f32⟩
  | 3 => ⟨S2112, .f32⟩
  | 4 => ⟨S2112x1024, .f32⟩
  | 5 => ⟨S2112, .f32⟩
  | 6 => ⟨S32x1024, .f32⟩
  | 7 => ⟨S32, .f32⟩
  | 8 => ⟨S64x1024, .f32⟩
  | 9 => ⟨S64, .f32⟩
  | 10 => ⟨S32, .i32⟩
  | 11 => ⟨S32x1, .i32⟩
  | 12 => ⟨S32x33x64x64, .f32⟩
  | 13 => ⟨S_, .f32⟩
  | 14 => ⟨S16x32x64, .f32⟩
  | 15 => ⟨S_, .i32⟩
  | 16 => ⟨S16x32x1024, .f32⟩
  | 17 => ⟨S32x1024, .f32⟩
  | 18 => ⟨S32, .f32⟩
  | 19 => ⟨S2112x1024, .f32⟩
  | 20 => ⟨S2112, .f32⟩
  | 21 => ⟨S2112x1024, .f32⟩
  | 22 => ⟨S2112, .f32⟩
  | 23 => ⟨S32x1, .i32⟩
  | 24 => ⟨S64x1024, .f32⟩
  | 25 => ⟨S64, .f32⟩
  | 26 => ⟨S_, .i32⟩
  | 27 => ⟨S32x33x64x64, .f32⟩
  | 28 => ⟨S16x32x64, .f32⟩
  | 29 => ⟨S_, .i32⟩
  | 30 => ⟨S_, .i1⟩
  | 31 => ⟨S_, .i32⟩
  | 32 => ⟨S_, .i32⟩
  | 33 => ⟨S1x32x1024, .f32⟩
  | 34 => ⟨S32x1024, .f32⟩
  | 35 => ⟨S1024x32, .f32⟩
  | 36 => ⟨S32x32, .f32⟩
  | 37 => ⟨S1x32, .f32⟩
  | 38 => ⟨S32x32, .f32⟩
  | 39 => ⟨S32x32, .f32⟩
  | 40 => ⟨S_, .f32⟩
  | 41 => ⟨S32, .f32⟩
  | 42 => ⟨S_, .f32⟩
  | 43 => ⟨S32, .f32⟩
  | 44 => ⟨S32, .f32⟩
  | 45 => ⟨S32x1, .f32⟩
  | 46 => ⟨S32x32, .f32⟩
  | 47 => ⟨S32x32, .f32⟩
  | 48 => ⟨S32x32, .f32⟩
  | 49 => ⟨S_, .f32⟩
  | 50 => ⟨S32, .f32⟩
  | 51 => ⟨S32x1, .f32⟩
  | 52 => ⟨S32x32, .f32⟩
  | 53 => ⟨S32x32, .f32⟩
  | 54 => ⟨S32x4, .f32⟩
  | 55 => ⟨S32x4, .i32⟩
  | 56 => ⟨S_, .i32⟩
  | 57 => ⟨S32x4, .i32⟩
  | 58 => ⟨S32x4, .i32⟩
  | 59 => ⟨S_, .i32⟩
  | 60 => ⟨S32x1, .i32⟩
  | 61 => ⟨S32x5, .i32⟩
  | 62 => ⟨S_, .f32⟩
  | 63 => ⟨S32, .f32⟩
  | 64 => ⟨S32x1, .f32⟩
  | 65 => ⟨S32x4, .f32⟩
  | 66 => ⟨S32x4, .f32⟩
  | 67 => ⟨S1024x2112, .f32⟩
  | 68 => ⟨S32x2112, .f32⟩
  | 69 => ⟨S1x2112, .f32⟩
  | 70 => ⟨S32x2112, .f32⟩
  | 71 => ⟨S32x2112, .f32⟩
  | 72 => ⟨S32x33x64, .f32⟩
  | 73 => ⟨S1024x2112, .f32⟩
  | 74 => ⟨S32x2112, .f32⟩
  | 75 => ⟨S1x2112, .f32⟩
  | 76 => ⟨S32x2112, .f32⟩
  | 77 => ⟨S32x2112, .f32⟩
  | 78 => ⟨S32x33x64, .f32⟩
  | 79 => ⟨S32x33x64x1, .f32⟩
  | 80 => ⟨S32x33x1x64, .f32⟩
  | 81 => ⟨S32x33x64x64, .f32⟩
  | 82 => ⟨S32x33x64x64, .f32⟩
  | 83 => ⟨S32x33x64x64, .f32⟩
  | 84 => ⟨S32x5x1x1, .i32⟩
  | 85 => ⟨S_, .i32⟩
  | 86 => ⟨S32x5x1x1, .i32⟩
  | 87 => ⟨S32x5x1x1, .i1⟩
  | 88 => ⟨S_, .i32⟩
  | 89 => ⟨S32x5x1x1, .i32⟩
  | 90 => ⟨S32x5x1x1, .i32⟩
  | 91 => ⟨S32x5x1x1, .i32⟩
  | 92 => ⟨S32x5x1, .i32⟩
  | 93 => ⟨S1, .i32⟩
  | 94 => ⟨S_, .i32⟩
  | 95 => ⟨S32x5x1, .i32⟩
  | 96 => ⟨S32x5x1, .i1⟩
  | 97 => ⟨S1x1x1, .i32⟩
  | 98 => ⟨S32x5x1, .i32⟩
  | 99 => ⟨S32x5x1, .i1⟩
  | 100 => ⟨S32x5x1, .i1⟩
  | 101 => ⟨S_, .i1⟩
  | 102 => ⟨S32x5, .i1⟩
  | 103 => ⟨S32x5x64x64, .f32⟩
  | 104 => ⟨S32x5x64x64, .i1⟩
  | 105 => ⟨S_, .f32⟩
  | 106 => ⟨S32x5x64x64, .f32⟩
  | 107 => ⟨S32x5x64x64, .f32⟩
  | 108 => ⟨S_, .i32⟩
  | 109 => ⟨S32x1, .i32⟩
  | 110 => ⟨S32x1, .i1⟩
  | 111 => ⟨S_, .i32⟩
  | 112 => ⟨S32x1, .i32⟩
  | 113 => ⟨S32x1, .i32⟩
  | 114 => ⟨S32x1, .i32⟩
  | 115 => ⟨S_, .i32⟩
  | 116 => ⟨S32x5, .i32⟩
  | 117 => ⟨S32x5, .i1⟩
  | 118 => ⟨S_, .i32⟩
  | 119 => ⟨S32x5, .i32⟩
  | 120 => ⟨S32x5, .i32⟩
  | 121 => ⟨S32x5, .i32⟩
  | 122 => ⟨S32x5, .i32⟩
  | 123 => ⟨S32x5x1, .i32⟩
  | 124 => ⟨S32x5x1, .i32⟩
  | 125 => ⟨S32x5x2, .i32⟩
  | 126 => ⟨S32x33x64x64, .f32⟩
  | 127 => ⟨S32x4x1x1, .i32⟩
  | _ => ⟨S16x32x1024, .f32⟩

abbrev hbmTy0_1 (i : Nat) : BufTy := match i % 128 with
  | 0 => ⟨S_, .i32⟩
  | 1 => ⟨S32x4x1x1, .i32⟩
  | 2 => ⟨S32x4x1x1, .i1⟩
  | 3 => ⟨S_, .i32⟩
  | 4 => ⟨S32x4x1x1, .i32⟩
  | 5 => ⟨S32x4x1x1, .i32⟩
  | 6 => ⟨S32x4x1x1, .i32⟩
  | 7 => ⟨S32x4x1, .i32⟩
  | 8 => ⟨S1, .i32⟩
  | 9 => ⟨S_, .i32⟩
  | 10 => ⟨S32x4x1, .i32⟩
  | 11 => ⟨S32x4x1, .i1⟩
  | 12 => ⟨S1x1x1, .i32⟩
  | 13 => ⟨S32x4x1, .i32⟩
  | 14 => ⟨S32x4x1, .i1⟩
  | 15 => ⟨S32x4x1, .i1⟩
  | 16 => ⟨S_, .i1⟩
  | 17 => ⟨S32x4, .i1⟩
  | 18 => ⟨S32x4x64x64, .f32⟩
  | 19 => ⟨S32x4x64x64, .i1⟩
  | 20 => ⟨S_, .f32⟩
  | 21 => ⟨S32x4x64x64, .f32⟩
  | 22 => ⟨S32x4x64x64, .f32⟩
  | 23 => ⟨S32x4x1x1, .f32⟩
  | 24 => ⟨S32x4x64x64, .f32⟩
  | 25 => ⟨S32x4x64x64, .f32⟩
  | 26 => ⟨S_, .f32⟩
  | 27 => ⟨S32x64x64, .f32⟩
  | 28 => ⟨S32x1x64x64, .f32⟩
  | 29 => ⟨S32x64x64, .f32⟩
  | 30 => ⟨S32x64x64, .f32⟩
  | 31 => ⟨S1024x64, .f32⟩
  | 32 => ⟨S32x64, .f32⟩
  | 33 => ⟨S1x64, .f32⟩
  | 34 => ⟨S32x64, .f32⟩
  | 35 => ⟨S32x64, .f32⟩
  | 36 => ⟨S32x64, .f32⟩
  | 37 => ⟨S1x32x64, .f32⟩
  | 38 => ⟨S_, .i32⟩
  | 39 => ⟨S_, .i32⟩
  | 40 => ⟨S16x32x64, .f32⟩
  | 41 => ⟨S_, .i32⟩
  | 42 => ⟨S_, .i32⟩
  | _ => ⟨S16x32x1024, .f32⟩

abbrev hbmTy (i : Nat) : BufTy := match i / 128 with
  | 0 => hbmTy0_0 i
  | 1 => hbmTy0_1 i
  | _ => ⟨S16x32x1024, .f32⟩

abbrev bufTy : (tb : Table) → Fin (tcTables nBuf tb) → BufTy
  | .hbm, ⟨i, _⟩ => hbmTy i
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_c : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev main_v4_7 : Ref sig .tc := ⟨.hbm, 23, rfl⟩
abbrev main_v4_8 : Ref sig .tc := ⟨.hbm, 24, rfl⟩
abbrev main_v4_9 : Ref sig .tc := ⟨.hbm, 25, rfl⟩
abbrev main_v4_10 : Ref sig .tc := ⟨.hbm, 26, rfl⟩
abbrev main_v4_11 : Ref sig .tc := ⟨.hbm, 27, rfl⟩
abbrev main_v4_12 : Ref sig .tc := ⟨.hbm, 28, rfl⟩
abbrev main_while0c_c_12 : Ref sig .tc := ⟨.hbm, 29, rfl⟩
abbrev main_while0c_v5 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_v0 : Ref sig .tc := ⟨.hbm, 33, rfl⟩
abbrev main_while0b_v5 : Ref sig .tc := ⟨.hbm, 34, rfl⟩
abbrev main_while0b_v6 : Ref sig .tc := ⟨.hbm, 35, rfl⟩
abbrev main_while0b_v7 : Ref sig .tc := ⟨.hbm, 36, rfl⟩
abbrev main_while0b_v8 : Ref sig .tc := ⟨.hbm, 37, rfl⟩
abbrev main_while0b_v9 : Ref sig .tc := ⟨.hbm, 38, rfl⟩
abbrev main_while0b_v10 : Ref sig .tc := ⟨.hbm, 39, rfl⟩
abbrev main_while0b_cst_12 : Ref sig .tc := ⟨.hbm, 40, rfl⟩
abbrev main_while0b_v11 : Ref sig .tc := ⟨.hbm, 41, rfl⟩
abbrev main_while0b_cst_13 : Ref sig .tc := ⟨.hbm, 42, rfl⟩
abbrev main_while0b_v12 : Ref sig .tc := ⟨.hbm, 43, rfl⟩
abbrev main_while0b_v13 : Ref sig .tc := ⟨.hbm, 44, rfl⟩
abbrev main_while0b_v14 : Ref sig .tc := ⟨.hbm, 45, rfl⟩
abbrev main_while0b_v15 : Ref sig .tc := ⟨.hbm, 46, rfl⟩
abbrev main_while0b_v16 : Ref sig .tc := ⟨.hbm, 47, rfl⟩
abbrev main_while0b_v17 : Ref sig .tc := ⟨.hbm, 48, rfl⟩
abbrev main_while0b_cst_14 : Ref sig .tc := ⟨.hbm, 49, rfl⟩
abbrev main_while0b_v18 : Ref sig .tc := ⟨.hbm, 50, rfl⟩
abbrev main_while0b_v19 : Ref sig .tc := ⟨.hbm, 51, rfl⟩
abbrev main_while0b_v20 : Ref sig .tc := ⟨.hbm, 52, rfl⟩
abbrev main_while0b_v21 : Ref sig .tc := ⟨.hbm, 53, rfl⟩
abbrev main_while0b_values : Ref sig .tc := ⟨.hbm, 54, rfl⟩
abbrev main_while0b_indices : Ref sig .tc := ⟨.hbm, 55, rfl⟩
abbrev main_while0b_c_15 : Ref sig .tc := ⟨.hbm, 56, rfl⟩
abbrev main_while0b_v22 : Ref sig .tc := ⟨.hbm, 57, rfl⟩
abbrev main_while0b_v23 : Ref sig .tc := ⟨.hbm, 58, rfl⟩
abbrev main_while0b_c_16 : Ref sig .tc := ⟨.hbm, 59, rfl⟩
abbrev main_while0b_v24 : Ref sig .tc := ⟨.hbm, 60, rfl⟩
abbrev main_while0b_v25 : Ref sig .tc := ⟨.hbm, 61, rfl⟩
abbrev main_while0b_cst_17 : Ref sig .tc := ⟨.hbm, 62, rfl⟩
abbrev main_while0b_v26 : Ref sig .tc := ⟨.hbm, 63, rfl⟩
abbrev main_while0b_v27 : Ref sig .tc := ⟨.hbm, 64, rfl⟩
abbrev main_while0b_v28 : Ref sig .tc := ⟨.hbm, 65, rfl⟩
abbrev main_while0b_v29 : Ref sig .tc := ⟨.hbm, 66, rfl⟩
abbrev main_while0b_v30 : Ref sig .tc := ⟨.hbm, 67, rfl⟩
abbrev main_while0b_v31 : Ref sig .tc := ⟨.hbm, 68, rfl⟩
abbrev main_while0b_v32 : Ref sig .tc := ⟨.hbm, 69, rfl⟩
abbrev main_while0b_v33 : Ref sig .tc := ⟨.hbm, 70, rfl⟩
abbrev main_while0b_v34 : Ref sig .tc := ⟨.hbm, 71, rfl⟩
abbrev main_while0b_v35 : Ref sig .tc := ⟨.hbm, 72, rfl⟩
abbrev main_while0b_v36 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_v40 : Ref sig .tc := ⟨.hbm, 77, rfl⟩
abbrev main_while0b_v41 : Ref sig .tc := ⟨.hbm, 78, rfl⟩
abbrev main_while0b_v42 : Ref sig .tc := ⟨.hbm, 79, rfl⟩
abbrev main_while0b_v43 : Ref sig .tc := ⟨.hbm, 80, rfl⟩
abbrev main_while0b_v44 : Ref sig .tc := ⟨.hbm, 81, rfl⟩
abbrev main_while0b_v45 : Ref sig .tc := ⟨.hbm, 82, rfl⟩
abbrev main_while0b_v46 : Ref sig .tc := ⟨.hbm, 83, rfl⟩
abbrev main_while0b_v47 : Ref sig .tc := ⟨.hbm, 84, rfl⟩
abbrev main_while0b_call1_c : Ref sig .tc := ⟨.hbm, 85, rfl⟩
abbrev main_while0b_call1_v0 : Ref sig .tc := ⟨.hbm, 86, rfl⟩
abbrev main_while0b_call1_v1 : Ref sig .tc := ⟨.hbm, 87, rfl⟩
abbrev main_while0b_call1_c_0 : Ref sig .tc := ⟨.hbm, 88, rfl⟩
abbrev main_while0b_call1_v2 : Ref sig .tc := ⟨.hbm, 89, rfl⟩
abbrev main_while0b_call1_v3 : Ref sig .tc := ⟨.hbm, 90, rfl⟩
abbrev main_while0b_call1_v4 : Ref sig .tc := ⟨.hbm, 91, rfl⟩
abbrev main_while0b_call1_v5 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_v6 : Ref sig .tc := ⟨.hbm, 95, rfl⟩
abbrev main_while0b_call1_v7 : Ref sig .tc := ⟨.hbm, 96, rfl⟩
abbrev main_while0b_call1_v8 : Ref sig .tc := ⟨.hbm, 97, rfl⟩
abbrev main_while0b_call1_v9 : Ref sig .tc := ⟨.hbm, 98, rfl⟩
abbrev main_while0b_call1_v10 : Ref sig .tc := ⟨.hbm, 99, rfl⟩
abbrev main_while0b_call1_v11 : Ref sig .tc := ⟨.hbm, 100, rfl⟩
abbrev main_while0b_call1_c_3 : Ref sig .tc := ⟨.hbm, 101, rfl⟩
abbrev main_while0b_call1_v12 : Ref sig .tc := ⟨.hbm, 102, rfl⟩
abbrev main_while0b_call1_v13 : Ref sig .tc := ⟨.hbm, 103, rfl⟩
abbrev main_while0b_call1_v14 : Ref sig .tc := ⟨.hbm, 104, rfl⟩
abbrev main_while0b_call1_cst : Ref sig .tc := ⟨.hbm, 105, rfl⟩
abbrev main_while0b_call1_v15 : Ref sig .tc := ⟨.hbm, 106, rfl⟩
abbrev main_while0b_v48 : Ref sig .tc := ⟨.hbm, 107, rfl⟩
abbrev main_while0b_c_18 : Ref sig .tc := ⟨.hbm, 108, rfl⟩
abbrev main_while0b_v49 : Ref sig .tc := ⟨.hbm, 109, rfl⟩
abbrev main_while0b_v50 : Ref sig .tc := ⟨.hbm, 110, rfl⟩
abbrev main_while0b_c_19 : Ref sig .tc := ⟨.hbm, 111, rfl⟩
abbrev main_while0b_v51 : Ref sig .tc := ⟨.hbm, 112, rfl⟩
abbrev main_while0b_v52 : Ref sig .tc := ⟨.hbm, 113, rfl⟩
abbrev main_while0b_v53 : Ref sig .tc := ⟨.hbm, 114, rfl⟩
abbrev main_while0b_c_20 : Ref sig .tc := ⟨.hbm, 115, rfl⟩
abbrev main_while0b_v54 : Ref sig .tc := ⟨.hbm, 116, rfl⟩
abbrev main_while0b_v55 : Ref sig .tc := ⟨.hbm, 117, rfl⟩
abbrev main_while0b_c_21 : Ref sig .tc := ⟨.hbm, 118, rfl⟩
abbrev main_while0b_v56 : Ref sig .tc := ⟨.hbm, 119, rfl⟩
abbrev main_while0b_v57 : Ref sig .tc := ⟨.hbm, 120, rfl⟩
abbrev main_while0b_v58 : Ref sig .tc := ⟨.hbm, 121, rfl⟩
abbrev main_while0b_v59 : Ref sig .tc := ⟨.hbm, 122, rfl⟩
abbrev main_while0b_v60 : Ref sig .tc := ⟨.hbm, 123, rfl⟩
abbrev main_while0b_v61 : Ref sig .tc := ⟨.hbm, 124, rfl⟩
abbrev main_while0b_v62 : Ref sig .tc := ⟨.hbm, 125, rfl⟩
abbrev main_while0b_v63 : Ref sig .tc := ⟨.hbm, 126, rfl⟩
abbrev main_while0b_v64 : Ref sig .tc := ⟨.hbm, 127, rfl⟩
abbrev main_while0b_call2_c : Ref sig .tc := ⟨.hbm, 128, rfl⟩
abbrev main_while0b_call2_v0 : Ref sig .tc := ⟨.hbm, 129, rfl⟩
abbrev main_while0b_call2_v1 : Ref sig .tc := ⟨.hbm, 130, rfl⟩
abbrev main_while0b_call2_c_0 : Ref sig .tc := ⟨.hbm, 131, rfl⟩
abbrev main_while0b_call2_v2 : Ref sig .tc := ⟨.hbm, 132, rfl⟩
abbrev main_while0b_call2_v3 : Ref sig .tc := ⟨.hbm, 133, rfl⟩
abbrev main_while0b_call2_v4 : Ref sig .tc := ⟨.hbm, 134, rfl⟩
abbrev main_while0b_call2_v5 : Ref sig .tc := ⟨.hbm, 135, rfl⟩
abbrev main_while0b_call2_c_1 : Ref sig .tc := ⟨.hbm, 136, rfl⟩
abbrev main_while0b_call2_c_2 : Ref sig .tc := ⟨.hbm, 137, rfl⟩
abbrev main_while0b_call2_v6 : Ref sig .tc := ⟨.hbm, 138, rfl⟩
abbrev main_while0b_call2_v7 : Ref sig .tc := ⟨.hbm, 139, rfl⟩
abbrev main_while0b_call2_v8 : Ref sig .tc := ⟨.hbm, 140, rfl⟩
abbrev main_while0b_call2_v9 : Ref sig .tc := ⟨.hbm, 141, rfl⟩
abbrev main_while0b_call2_v10 : Ref sig .tc := ⟨.hbm, 142, rfl⟩
abbrev main_while0b_call2_v11 : Ref sig .tc := ⟨.hbm, 143, rfl⟩
abbrev main_while0b_call2_c_3 : Ref sig .tc := ⟨.hbm, 144, rfl⟩
abbrev main_while0b_call2_v12 : Ref sig .tc := ⟨.hbm, 145, rfl⟩
abbrev main_while0b_call2_v13 : Ref sig .tc := ⟨.hbm, 146, rfl⟩
abbrev main_while0b_call2_v14 : Ref sig .tc := ⟨.hbm, 147, rfl⟩
abbrev main_while0b_call2_cst : Ref sig .tc := ⟨.hbm, 148, rfl⟩
abbrev main_while0b_call2_v15 : Ref sig .tc := ⟨.hbm, 149, rfl⟩
abbrev main_while0b_v65 : Ref sig .tc := ⟨.hbm, 150, rfl⟩
abbrev main_while0b_v66 : Ref sig .tc := ⟨.hbm, 151, rfl⟩
abbrev main_while0b_v67 : Ref sig .tc := ⟨.hbm, 152, rfl⟩
abbrev main_while0b_v68 : Ref sig .tc := ⟨.hbm, 153, rfl⟩
abbrev main_while0b_cst_22 : Ref sig .tc := ⟨.hbm, 154, rfl⟩
abbrev main_while0b_v69 : Ref sig .tc := ⟨.hbm, 155, rfl⟩
abbrev main_while0b_v70 : Ref sig .tc := ⟨.hbm, 156, rfl⟩
abbrev main_while0b_v71 : Ref sig .tc := ⟨.hbm, 157, rfl⟩
abbrev main_while0b_v72 : Ref sig .tc := ⟨.hbm, 158, rfl⟩
abbrev main_while0b_v73 : Ref sig .tc := ⟨.hbm, 159, rfl⟩
abbrev main_while0b_v74 : Ref sig .tc := ⟨.hbm, 160, rfl⟩
abbrev main_while0b_v75 : Ref sig .tc := ⟨.hbm, 161, rfl⟩
abbrev main_while0b_v76 : Ref sig .tc := ⟨.hbm, 162, rfl⟩
abbrev main_while0b_v77 : Ref sig .tc := ⟨.hbm, 163, rfl⟩
abbrev main_while0b_v78 : Ref sig .tc := ⟨.hbm, 164, rfl⟩
abbrev main_while0b_call3_v0 : Ref sig .tc := ⟨.hbm, 165, rfl⟩
abbrev main_while0b_call3_c : Ref sig .tc := ⟨.hbm, 166, rfl⟩
abbrev main_while0b_call3_c_0 : Ref sig .tc := ⟨.hbm, 167, rfl⟩
abbrev main_while0b_v79 : Ref sig .tc := ⟨.hbm, 168, rfl⟩
abbrev main_while0b_c_23 : Ref sig .tc := ⟨.hbm, 169, rfl⟩
abbrev main_while0b_v80 : Ref sig .tc := ⟨.hbm, 170, rfl⟩

abbrev nD : Nat := 1
abbrev τ : Topo := Topo.v7x

variable {F : FTy → Type} [FloatOps F]

abbrev main_while0_count : Scf.Loop 32 := ⟨0#32, 16#32, 1#32⟩
-- ==== Proof.RunIdeal.lean ====
/-
  The run of the four calls of `KernelIdeal`, at every element type `F`: per call, at a parameter `V` (what the buffers hold when
  the call is entered), each window's block at a grid point, what the body leaves in each output window, the call's proof
  data and the body's obligation; then the contents of the buffers between the items of @main as a fold `W0 … W8` from
  the memory the program is started from, the calls as segments of @main, and the launch.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle recurses once per coordinate of its long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__proj_kv_kernel` (pipeline 0), at the entry contents `V` (outputs carried from point to point) -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points from point 1 on — by arithmetic of the point. -/
theorem hcond0_1 : ∀ t : Fin cfg0.N, cond0_1 (grid0.coords t) ↔ 1 ≤ t.val :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a
    bit mask, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x8 : ℕ).testBit n
/-- The table follows the configuration's own step at every point. -/
theorem freshTab0_5_step : ∀ t : Fin cfg0.N,
    freshTab0_5 (t.val + 1) = ((cfg0.win 5).flush t || (cfg0.idle 5 (cfg0.grid.coords t) && freshTab0_5 t.val)) := by decide +kernel
/-- The configuration calls output 5's buffer fresh where the table says so. -/
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 live: the case stores into it. -/
theorem liveAt0_5_B : ∀ t : Fin cfg0.N, ¬cond0_0 (grid0.coords t) → cond0_1 (grid0.coords t) → cfg0.idle 5 (grid0.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cond0_1 (grid0.coords t) → cfg0.fresh 5 t.val = false := by
  intro t; rw [fresh0_5_eq t]; revert t; decide +kernel
/-- Whether output 6's buffer is FRESH at each position `1 ‥ N` — holds nothing the body stored since the region's entry or the
    last write-back (written back at the point before, or idle there and fresh before it) —, as a
    bit mask, bit `n` for position `n + 1`; position 0 is fresh. `freshTab0_6_step` checks it against the configuration's own
    step point by point and Lib/Pipeline/TableIdle.lean `Cfg.fresh_tab` makes it `Cfg.fresh` (`fresh0_6_eq`). -/
def freshTab0_6 : ℕ → Bool
  | 0 => true
  | n + 1 => (0x8 : ℕ).testBit n
/-- The table follows the configuration's own step at every point. -/
theorem freshTab0_6_step : ∀ t : Fin cfg0.N,
    freshTab0_6 (t.val + 1) = ((cfg0.win 6).flush t || (cfg0.idle 6 (cfg0.grid.coords t) && freshTab0_6 t.val)) := by decide +kernel
/-- The configuration calls output 6's buffer fresh where the table says so. -/
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the points of case A the printed configuration (`Cfg.idle`) calls output 6 live: the case stores into it. -/
theorem liveAt0_6_A : ∀ t : Fin cfg0.N, cond0_0 (grid0.coords t) → ¬cond0_1 (grid0.coords t) → cfg0.idle 6 (grid0.coords t) = false := by decide +kernel
/-- At the points of case B the printed configuration (`Cfg.idle`) calls output 6 live: the case stores into it. -/
theorem liveAt0_6_B : ∀ t : Fin cfg0.N, ¬cond0_0 (grid0.coords t) → cond0_1 (grid0.coords t) → cfg0.idle 6 (grid0.coords t) = false := by decide +kernel
/-- At the points of case B, which keeps output 6's prior contents (reads it before covering, or covers it in part), the
    window's buffer is not FRESH: something was stored into it since the region's entry or its last write-back, idle points
    between or not (Lib/Pipeline/TableIdle.lean `Cfg.fresh`, by the table `freshTab0_6`). -/
theorem notFresh0_6_B : ∀ t : Fin cfg0.N, ¬cond0_0 (grid0.coords t) → cond0_1 (grid0.coords t) → cfg0.fresh 6 t.val = false := by
  intro t; rw [fresh0_6_eq t]; revert t; decide +kernel

/-! ## The kernel body on any staging memrefs: a subtype the run finds -/

/-- One staging buffer of output window 5, through which its contents are stated (`View.read_writes_of_cover`: the
    choice does not matter). -/
abbrev VO0_5 : View sig .tc .vmem S512x2112 .f32 := (Memref.whole cc0_stg5_0 : Memref sig .tc .vmem S512x2112 .f32).view
/-- One staging buffer of output window 6, through which its contents are stated (`View.read_writes_of_cover`: the
    choice does not matter). -/
abbrev VO0_6 : View sig .tc .vmem S512x2112 .f32 := (Memref.whole cc0_stg6_0 : Memref sig .tc .vmem S512x2112 .f32).view
/-- Each window's current staging memref at point `t`, spelled as the pipeline passes it (`bodyAt0`), and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2112x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2112 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2112x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2112 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2112 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2112 .f32 := win0_6.stage (cfg0.slots t 6)
abbrev hs0_6 (t : Fin cfg0.N) : (ms0_6 t).IsWhole := hstage0_6 ((cfg0.slots t 6).cast nbuf0_6)

-- the run is long
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x256 .f32) (harg1 : arg1.IsWhole) (arg2 : Memref sig .tc .vmem S2112x256 .f32) (harg2 : arg2.IsWhole) (arg3 : Memref sig .tc .vmem S1x2112 .f32) (harg3 : arg3.IsWhole) (arg4 : Memref sig .tc .vmem S2112x256 .f32) (harg4 : arg4.IsWhole) (arg5 : Memref sig .tc .vmem S1x2112 .f32) (harg5 : arg5.IsWhole) (arg6 : Memref sig .tc .vmem S512x2112 .f32) (harg6 : arg6.IsWhole) (arg7 : Memref sig .tc .vmem S512x2112 .f32) (harg7 : arg7.IsWhole) (hc0 : cond0_0 i) (hc1 : ¬cond0_1 i)
    (x0 : Vec F S512x256 .f32) (x1 : Vec F S2112x256 .f32) (x2 : Vec F S1x2112 .f32) (x3 : Vec F S2112x256 .f32) (x4 : Vec F S1x2112 .f32) :
    Σ' (L5 : List (View.Piece (Elt F) S512x2112 .f32)), { L6 : List (View.Piece (Elt F) S512x2112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0__proj_kv_kernel i arg1 harg1 arg2 harg2 arg3 harg3 arg4 harg4 arg5 harg5 arg6 harg6 arg7 harg7) K } := by
  refine ⟨?_, ?_, fun E K => ?run⟩
  case run =>
    simp only [cc0__proj_kv_kernel_eq_skeleton]; unfold cc0__proj_kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

/-- Case A's pieces for output 5 tile its block (1 store of `S512x2112`), so they cover it. -/
theorem cover0_A_5 (c : Dev nD) (i : grid0.Coords) (arg1 : Memref sig .tc .vmem S512x256 .f32) (harg1 : arg1.IsWhole) (arg2 : Memref sig .tc .vmem S2112x256 .f32) (harg2 : arg2.IsWhole) (arg3 : Memref sig .tc .vmem S1x2112 .f32) (harg3 : arg3.IsWhole) (arg4 : Memref sig .tc .vmem S2112x256 .f32) (harg4 : arg4.IsWhole) (arg5 : Memref sig .tc .vmem S1x2112 .f32) (harg5 : arg5.IsWhole) (arg6 : Memref sig .tc .vmem S512x2112 .f32) (harg6 : arg6.IsWhole) (arg7 : Memref sig .tc .vmem S512x2112 .f32) (harg7 : arg7.IsWhole) (hc0 : cond0_0 i) (hc1 : ¬cond0_1 i)
    (x0 : Vec F S512x256 .f32) (x1 : Vec F S2112x256 .f32) (x2 : Vec F S1x2112 .f32) (x3 : Vec F S2112x256 .f32) (x4 : Vec F S1x2112 .f32) (y : S512x2112.Idx) :
    ∃ pc ∈ (kernelRun0_A c i arg1 harg1 arg2 harg2 arg3 harg3 arg4 harg4 arg5 harg5 arg6 harg6 arg7 harg7 hc0 hc1 x0 x1 x2 x3 x4).1, y ∈ pc.1.set :=
  View.cover_of_tiledL (kernelRun0_A c i arg1 harg1 arg2 harg2 arg3 harg3 arg4 harg4 arg5 harg5 arg6 harg6 arg7 harg7 hc0 hc1 x0 x1 x2 x3 x4).1 S512x2112.size (by sl_kernel_rfl) y

/-- What case A leaves in output 5's staging buffer: its pieces read back over junk. -/
def out0_A_5 (c : Dev nD) (i : grid0.Coords) (arg1 : Memref sig .tc .vmem S512x256 .f32) (harg1 : arg1.IsWhole) (arg2 : Memref sig .tc .vmem S2112x256 .f32) (harg2 : arg2.IsWhole) (arg3 : Memref sig .tc .vmem S1x2112 .f32) (harg3 : arg3.IsWhole) (arg4 : Memref sig .tc .vmem S2112x256 .f32) (harg4 : arg4.IsWhole) (arg5 : Memref sig .tc .vmem S1x2112 .f32) (harg5 : arg5.IsWhole) (arg6 : Memref sig .tc .vmem S512x2112 .f32) (harg6 : arg6.IsWhole) (arg7 : Memref sig .tc .vmem S512x2112 .f32) (harg7 : arg7.IsWhole) (hc0 : cond0_0 i) (hc1 : ¬cond0_1 i)
    (x0 : Vec F S512x256 .f32) (x1 : Vec F S2112x256 .f32) (x2 : Vec F S1x2112 .f32) (x3 : Vec F S2112x256 .f32) (x4 : Vec F S1x2112 .f32) : Vec F S512x2112 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- Case A's pieces for output 6 tile its block (1 store of `S512x2112`), so they cover it. -/
theorem cover0_A_6 (c : Dev nD) (i : grid0.Coords) (arg1 : Memref sig .tc .vmem S512x256 .f32) (harg1 : arg1.IsWhole) (arg2 : Memref sig .tc .vmem S2112x256 .f32) (harg2 : arg2.IsWhole) (arg3 : Memref sig .tc .vmem S1x2112 .f32) (harg3 : arg3.IsWhole) (arg4 : Memref sig .tc .vmem S2112x256 .f32) (harg4 : arg4.IsWhole) (arg5 : Memref sig .tc .vmem S1x2112 .f32) (harg5 : arg5.IsWhole) (arg6 : Memref sig .tc .vmem S512x2112 .f32) (harg6 : arg6.IsWhole) (arg7 : Memref sig .tc .vmem S512x2112 .f32) (harg7 : arg7.IsWhole) (hc0 : cond0_0 i) (hc1 : ¬cond0_1 i)
    (x0 : Vec F S512x256 .f32) (x1 : Vec F S2112x256 .f32) (x2 : Vec F S1x2112 .f32) (x3 : Vec F S2112x256 .f32) (x4 : Vec F S1x2112 .f32) (y : S512x2112.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S512x2112.size (by sl_kernel_rfl) y

/-- What case A leaves in output 6's staging buffer: its pieces read back over junk. -/
def out0_A_6 (c : Dev nD) (i : grid0.Coords) (arg1 : Memref sig .tc .vmem S512x256 .f32) (harg1 : arg1.IsWhole) (arg2 : Memref sig .tc .vmem S2112x256 .f32) (harg2 : arg2.IsWhole) (arg3 : Memref sig .tc .vmem S1x2112 .f32) (harg3 : arg3.IsWhole) (arg4 : Memref sig .tc .vmem S2112x256 .f32) (harg4 : arg4.IsWhole) (arg5 : Memref sig .tc .vmem S1x2112 .f32) (harg5 : arg5.IsWhole) (arg6 : Memref sig .tc .vmem S512x2112 .f32) (harg6 : arg6.IsWhole) (arg7 : Memref sig .tc .vmem S512x2112 .f32) (harg7 : arg7.IsWhole) (hc0 : cond0_0 i) (hc1 : ¬cond0_1 i)
    (x0 : Vec F S512x256 .f32) (x1 : Vec F S2112x256 .f32) (x2 : Vec F S1x2112 .f32) (x3 : Vec F S2112x256 .f32) (x4 : Vec F S1x2112 .f32) : Vec F S512x2112 .f32 :=
  VO0_6.read (Elt F) (VO0_6.writes (Elt F) VO0_6.junk (kernelRun0_A c i arg1 harg1 arg2 harg2 arg3 harg3 arg4 harg4 arg5 harg5 arg6 harg6 arg7 harg7 hc0 hc1 x0 x1 x2 x3 x4).2.1)

-- the run is long
set_option maxHeartbeats 1000000 in
/-- What the body's stores leave in each output's staging memref, as pieces (last first) IN CASE B (`scf.if` 0 not taken, `scf.if` 1 taken: points 1, 2, 3), WITH the
    proof that on whole staging memrefs — the inputs' at their contents, the outputs it reads before covering (5, 6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x256 .f32) (harg1 : arg1.IsWhole) (arg2 : Memref sig .tc .vmem S2112x256 .f32) (harg2 : arg2.IsWhole) (arg3 : Memref sig .tc .vmem S1x2112 .f32) (harg3 : arg3.IsWhole) (arg4 : Memref sig .tc .vmem S2112x256 .f32) (harg4 : arg4.IsWhole) (arg5 : Memref sig .tc .vmem S1x2112 .f32) (harg5 : arg5.IsWhole) (arg6 : Memref sig .tc .vmem S512x2112 .f32) (harg6 : arg6.IsWhole) (arg7 : Memref sig .tc .vmem S512x2112 .f32) (harg7 : arg7.IsWhole) (hc0 : ¬cond0_0 i) (hc1 : cond0_1 i)
    (x0 : Vec F S512x256 .f32) (x1 : Vec F S2112x256 .f32) (x2 : Vec F S1x2112 .f32) (x3 : Vec F S2112x256 .f32) (x4 : Vec F S1x2112 .f32) (xo5 : Vec F S512x2112 .f32) (xo6 : Vec F S512x2112 .f32) :
    Σ' (L5 : List (View.Piece (Elt F) S512x2112 .f32)), { L6 : List (View.Piece (Elt F) S512x2112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0__proj_kv_kernel i arg1 harg1 arg2 harg2 arg3 harg3 arg4 harg4 arg5 harg5 arg6 harg6 arg7 harg7) K } := by
  refine ⟨?_, ?_, fun E K => ?run⟩
  case run =>
    simp only [cc0__proj_kv_kernel_eq_skeleton]; unfold cc0__proj_kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

/-- Case B's pieces for output 5 tile its block (1 store of `S512x2112`), so they cover it. -/
theorem cover0_B_5 (c : Dev nD) (i : grid0.Coords) (arg1 : Memref sig .tc .vmem S512x256 .f32) (harg1 : arg1.IsWhole) (arg2 : Memref sig .tc .vmem S2112x256 .f32) (harg2 : arg2.IsWhole) (arg3 : Memref sig .tc .vmem S1x2112 .f32) (harg3 : arg3.IsWhole) (arg4 : Memref sig .tc .vmem S2112x256 .f32) (harg4 : arg4.IsWhole) (arg5 : Memref sig .tc .vmem S1x2112 .f32) (harg5 : arg5.IsWhole) (arg6 : Memref sig .tc .vmem S512x2112 .f32) (harg6 : arg6.IsWhole) (arg7 : Memref sig .tc .vmem S512x2112 .f32) (harg7 : arg7.IsWhole) (hc0 : ¬cond0_0 i) (hc1 : cond0_1 i)
    (x0 : Vec F S512x256 .f32) (x1 : Vec F S2112x256 .f32) (x2 : Vec F S1x2112 .f32) (x3 : Vec F S2112x256 .f32) (x4 : Vec F S1x2112 .f32) (xo5 : Vec F S512x2112 .f32) (xo6 : Vec F S512x2112 .f32) (y : S512x2112.Idx) :
    ∃ pc ∈ (kernelRun0_B c i arg1 harg1 arg2 harg2 arg3 harg3 arg4 harg4 arg5 harg5 arg6 harg6 arg7 harg7 hc0 hc1 x0 x1 x2 x3 x4 xo5 xo6).1, y ∈ pc.1.set :=
  View.cover_of_tiledL (kernelRun0_B c i arg1 harg1 arg2 harg2 arg3 harg3 arg4 harg4 arg5 harg5 arg6 harg6 arg7 harg7 hc0 hc1 x0 x1 x2 x3 x4 xo5 xo6).1 S512x2112.size (by sl_kernel_rfl) y

/-- What case B leaves in output 5's staging buffer: its pieces read back over junk. -/
def out0_B_5 (c : Dev nD) (i : grid0.Coords) (arg1 : Memref sig .tc .vmem S512x256 .f32) (harg1 : arg1.IsWhole) (arg2 : Memref sig .tc .vmem S2112x256 .f32) (harg2 : arg2.IsWhole) (arg3 : Memref sig .tc .vmem S1x2112 .f32) (harg3 : arg3.IsWhole) (arg4 : Memref sig .tc .vmem S2112x256 .f32) (harg4 : arg4.IsWhole) (arg5 : Memref sig .tc .vmem S1x2112 .f32) (harg5 : arg5.IsWhole) (arg6 : Memref sig .tc .vmem S512x2112 .f32) (harg6 : arg6.IsWhole) (arg7 : Memref sig .tc .vmem S512x2112 .f32) (harg7 : arg7.IsWhole) (hc0 : ¬cond0_0 i) (hc1 : cond0_1 i)
    (x0 : Vec F S512x256 .f32) (x1 : Vec F S2112x256 .f32) (x2 : Vec F S1x2112 .f32) (x3 : Vec F S2112x256 .f32) (x4 : Vec F S1x2112 .f32) (xo5 : Vec F S512x2112 .f32) (xo6 : Vec F S512x2112 .f32) : Vec F S512x2112 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xo5 xo6).1)

/-- Case B's pieces for output 6 tile its block (1 store of `S512x2112`), so they cover it. -/
theorem cover0_B_6 (c : Dev nD) (i : grid0.Coords) (arg1 : Memref sig .tc .vmem S512x256 .f32) (harg1 : arg1.IsWhole) (arg2 : Memref sig .tc .vmem S2112x256 .f32) (harg2 : arg2.IsWhole) (arg3 : Memref sig .tc .vmem S1x2112 .f32) (harg3 : arg3.IsWhole) (arg4 : Memref sig .tc .vmem S2112x256 .f32) (harg4 : arg4.IsWhole) (arg5 : Memref sig .tc .vmem S1x2112 .f32) (harg5 : arg5.IsWhole) (arg6 : Memref sig .tc .vmem S512x2112 .f32) (harg6 : arg6.IsWhole) (arg7 : Memref sig .tc .vmem S512x2112 .f32) (harg7 : arg7.IsWhole) (hc0 : ¬cond0_0 i) (hc1 : cond0_1 i)
    (x0 : Vec F S512x256 .f32) (x1 : Vec F S2112x256 .f32) (x2 : Vec F S1x2112 .f32) (x3 : Vec F S2112x256 .f32) (x4 : Vec F S1x2112 .f32) (xo5 : Vec F S512x2112 .f32) (xo6 : Vec F S512x2112 .f32) (y : S512x2112.Idx) :
    ∃ pc ∈ (kernelRun0_B c i arg1 harg1 arg2 harg2 arg3 harg3 arg4 harg4 arg5 harg5 arg6 harg6 arg7 harg7 hc0 hc1 x0 x1 x2 x3 x4 xo5 xo6).2.1, y ∈ pc.1.set :=
  View.cover_of_tiledL (kernelRun0_B c i arg1 harg1 arg2 harg2 arg3 harg3 arg4 harg4 arg5 harg5 arg6 harg6 arg7 harg7 hc0 hc1 x0 x1 x2 x3 x4 xo5 xo6).2.1 S512x2112.size (by sl_kernel_rfl) y

/-- What case B leaves in output 6's staging buffer: its pieces read back over junk. -/
def out0_B_6 (c : Dev nD) (i : grid0.Coords) (arg1 : Memref sig .tc .vmem S512x256 .f32) (harg1 : arg1.IsWhole) (arg2 : Memref sig .tc .vmem S2112x256 .f32) (harg2 : arg2.IsWhole) (arg3 : Memref sig .tc .vmem S1x2112 .f32) (harg3 : arg3.IsWhole) (arg4 : Memref sig .tc .vmem S2112x256 .f32) (harg4 : arg4.IsWhole) (arg5 : Memref sig .tc .vmem S1x2112 .f32) (harg5 : arg5.IsWhole) (arg6 : Memref sig .tc .vmem S512x2112 .f32) (harg6 : arg6.IsWhole) (arg7 : Memref sig .tc .vmem S512x2112 .f32) (harg7 : arg7.IsWhole) (hc0 : ¬cond0_0 i) (hc1 : cond0_1 i)
    (x0 : Vec F S512x256 .f32) (x1 : Vec F S2112x256 .f32) (x2 : Vec F S1x2112 .f32) (x3 : Vec F S2112x256 .f32) (x4 : Vec F S1x2112 .f32) (xo5 : Vec F S512x2112 .f32) (xo6 : Vec F S512x2112 .f32) : Vec F S512x2112 .f32 :=
  VO0_6.read (Elt F) (VO0_6.writes (Elt F) VO0_6.junk (kernelRun0_B c i arg1 harg1 arg2 harg2 arg3 harg3 arg4 harg4 arg5 harg5 arg6 harg6 arg7 harg7 hc0 hc1 x0 x1 x2 x3 x4 xo5 xo6).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x2112 .f32 × Vec F S512x2112 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : 1 ≤ (n + 1) then
        False.elim (by have hN : n + 1 < 4 := lt_of_lt_of_eq hn (show cfg0.N = 4 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : 1 ≤ (n + 1) then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2)
      else
        False.elim (by have hN : n + 1 < 4 := lt_of_lt_of_eq hn (show cfg0.N = 4 from N_0); omega)

/-- `outsAt0` at a point of case A: that case's contents. -/
theorem outsAt0_A (c : Dev nD) (t : Fin cfg0.N) (h0 : t.val % 4 = 0) (h1 : ¬1 ≤ t.val) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : 1 ≤ t.val) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2
  Φ _ := Pipeline.ΦA spec0 c
  q _ := fullShare
  owed _ := 0

/-- The proof data's arrays are the region-entry contents, which a region's record cites for its arrays. -/
theorem A_eq0 (c : Dev nD) (w : Fin cfg0.W) : (dat0 V c).A w = V c (Pipeline.arrRef spec0 w) := by
  dsimp only [dat0]

/-- The body leaves input 0's buffer at its block. -/
theorem after0_0 (c : Dev nD) (t : Fin cfg0.N) : (dat0 V c).after 0 t = iblk0 V c 0 t := by dsimp only [dat0]
/-- The body leaves input 1's buffer at its block. -/
theorem after0_1 (c : Dev nD) (t : Fin cfg0.N) : (dat0 V c).after 1 t = iblk0 V c 1 t := by dsimp only [dat0]
/-- The body leaves input 2's buffer at its block. -/
theorem after0_2 (c : Dev nD) (t : Fin cfg0.N) : (dat0 V c).after 2 t = iblk0 V c 2 t := by dsimp only [dat0]
/-- The body leaves input 3's buffer at its block. -/
theorem after0_3 (c : Dev nD) (t : Fin cfg0.N) : (dat0 V c).after 3 t = iblk0 V c 3 t := by dsimp only [dat0]
/-- The body leaves input 4's buffer at its block. -/
theorem after0_4 (c : Dev nD) (t : Fin cfg0.N) : (dat0 V c).after 4 t = iblk0 V c 4 t := by dsimp only [dat0]
/-- The body leaves output 5's buffer at the contents its stores give. -/
theorem after0_5 (c : Dev nD) (t : Fin cfg0.N) : (dat0 V c).after 5 t = (outsAt0 V c t.val t.isLt).1 := by dsimp only [dat0]
/-- The body leaves output 6's buffer at the contents its stores give. -/
theorem after0_6 (c : Dev nD) (t : Fin cfg0.N) : (dat0 V c).after 6 t = (outsAt0 V c t.val t.isLt).2 := by dsimp only [dat0]

/-- Input 0's current buffer holds its block at every point, fetched there or not. -/
theorem before0_0 (c : Dev nD) (t : Fin cfg0.N) (d) : (dat0 V c).before 0 t d = iblk0 V c 0 t :=
  Dat.before_in_eq_fetched _ 0 rfl (fun _ => rfl) (fun _ _ _ => rfl) (after0_0 V c) t d
/-- Input 1's current buffer holds its block at every point, fetched there or not. -/
theorem before0_1 (c : Dev nD) (t : Fin cfg0.N) (d) : (dat0 V c).before 1 t d = iblk0 V c 1 t :=
  Dat.before_in_eq_fetched _ 1 rfl (fun _ => rfl) (fun _ _ _ => rfl) (after0_1 V c) t d
/-- Input 2's current buffer holds its block at every point, fetched there or not. -/
theorem before0_2 (c : Dev nD) (t : Fin cfg0.N) (d) : (dat0 V c).before 2 t d = iblk0 V c 2 t :=
  Dat.before_in_eq_fetched _ 2 rfl (fun _ => rfl) (fun _ _ _ => rfl) (after0_2 V c) t d
/-- Input 3's current buffer holds its block at every point, fetched there or not. -/
theorem before0_3 (c : Dev nD) (t : Fin cfg0.N) (d) : (dat0 V c).before 3 t d = iblk0 V c 3 t :=
  Dat.before_in_eq_fetched _ 3 rfl (fun _ => rfl) (fun _ _ _ => rfl) (after0_3 V c) t d
/-- Input 4's current buffer holds its block at every point, fetched there or not. -/
theorem before0_4 (c : Dev nD) (t : Fin cfg0.N) (d) : (dat0 V c).before 4 t d = iblk0 V c 4 t :=
  Dat.before_in_eq_fetched _ 4 rfl (fun _ => rfl) (fun _ _ _ => rfl) (after0_4 V c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dat0 V c).after 5 t = (dat0 V c).after 5 ⟨t.val - 1, by omega⟩ := by
  intro t _ hi _
  have hN : t.val < 4 := lt_of_lt_of_eq t.isLt (show cfg0.N = 4 from N_0)
  rw [after0_5, after0_5]
  by_cases h0 : t.val % 4 = 0
  · by_cases h1 : 1 ≤ t.val
    · exfalso; omega
    · rw [liveAt0_5_A t ((hcond0_0 t).mpr h0) (fun h => h1 ((hcond0_1 t).mp h))] at hi
      exact absurd hi Bool.false_ne_true
  · by_cases h1 : 1 ≤ t.val
    · rw [liveAt0_5_B t (fun h => h0 ((hcond0_0 t).mp h)) ((hcond0_1 t).mpr h1)] at hi
      exact absurd hi Bool.false_ne_true
    · exfalso; omega

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dat0 V c).after 6 t = (dat0 V c).after 6 ⟨t.val - 1, by omega⟩ := by
  intro t _ hi _
  have hN : t.val < 4 := lt_of_lt_of_eq t.isLt (show cfg0.N = 4 from N_0)
  rw [after0_6, after0_6]
  by_cases h0 : t.val % 4 = 0
  · by_cases h1 : 1 ≤ t.val
    · exfalso; omega
    · rw [liveAt0_6_A t ((hcond0_0 t).mpr h0) (fun h => h1 ((hcond0_1 t).mp h))] at hi
      exact absurd hi Bool.false_ne_true
  · by_cases h1 : 1 ≤ t.val
    · rw [liveAt0_6_B t (fun h => h0 ((hcond0_0 t).mp h)) ((hcond0_1 t).mpr h1)] at hi
      exact absurd hi Bool.false_ne_true
    · exfalso; omega
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 4 = 0) (h1 : 1 ≤ t.val) (d) :
    (dat0 V c).before 5 t d = (outsAt0 V c (t.val - 1) (Nat.lt_of_le_of_lt (Nat.sub_le _ _) t.isLt)).1 := by
  rw [Dat.before_out_traj _ 5 rfl (fun _ _ => rfl) (hcarry0_5 V c) t.val t rfl d,
    if_neg (by rw [notFresh0_5_B t (fun h => h0 ((hcond0_0 t).mp h)) ((hcond0_1 t).mpr h1)]; exact Bool.false_ne_true)]
  dsimp only [dat0]
/-- At a point of case B output 6's current staging buffer holds what the point before left: the buffer is not fresh
    there (`notFresh0_6_B`: stored into since the region's entry or the last write-back, carried through the points that
    leave it idle by `hcarry0_6`; Lib/Pipeline/TableIdle.lean `Dat.before_out_traj`). -/
theorem before0_6_B (c : Dev nD) (t : Fin cfg0.N) (h0 : ¬t.val % 4 = 0) (h1 : 1 ≤ t.val) (d) :
    (dat0 V c).before 6 t d = (outsAt0 V c (t.val - 1) (Nat.lt_of_le_of_lt (Nat.sub_le _ _) t.isLt)).2 := by
  rw [Dat.before_out_traj _ 6 rfl (fun _ _ => rfl) (hcarry0_6 V c) t.val t rfl d,
    if_neg (by rw [notFresh0_6_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl]
  have hN : t.val < 4 := lt_of_lt_of_eq t.isLt (show cfg0.N = 4 from N_0)
  by_cases h0 : t.val % 4 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5_A t ((hcond0_0 t).mpr h0) (fun h => h1 ((hcond0_1 t).mp h))], after0_5]
      rw [show (dat0 V c).leavesExact 6 t = owns (c : Thread nD τ) (ms0_6 t) fullShare ((dat0 V c).after 6 t) from by
      unfold Dat.leavesExact; rw [liveAt0_6_A t ((hcond0_0 t).mpr h0) (fun h => h1 ((hcond0_1 t).mp h))], after0_6]
      rw [outsAt0_A V c t h0 h1]
      unfold out0_A_5 out0_A_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5_B t (fun h => h0 ((hcond0_0 t).mp h)) ((hcond0_1 t).mpr h1)], after0_5]
      rw [show (dat0 V c).leavesExact 6 t = owns (c : Thread nD τ) (ms0_6 t) fullShare ((dat0 V c).after 6 t) from by
      unfold Dat.leavesExact; rw [liveAt0_6_B t (fun h => h0 ((hcond0_0 t).mp h)) ((hcond0_1 t).mpr h1)], after0_6]
      rw [outsAt0_B V c t h0 h1]
      simp only [before0_5_B V c t h0 h1, before0_6_B V c t h0 h1]
      unfold out0_B_5 out0_B_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__proj_gq_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S512x1024 := Rect.unit (s := S512x1024) ![0, 0] S512x1024.size inb_S512x1024_S512x1024_0_0
abbrev r1_1 : Rect S32x1024 := Rect.unit (s := S32x1024) ![0, 0] S32x1024.size inb_S32x1024_S32x1024_0_0
abbrev r1_2 : Rect S1x32 := Rect.unit (s := S1x32) ![0, 0] S1x32.size inb_S1x32_S1x32_0_0
abbrev r1_3 : Rect S512x32 := Rect.unit (s := S512x32) ![0, 0] S512x32.size inb_S512x32_S512x32_0_0
abbrev r1_4 : Rect S64x1024 := Rect.unit (s := S64x1024) ![0, 0] S64x1024.size inb_S64x1024_S64x1024_0_0
abbrev r1_5 : Rect S1x64 := Rect.unit (s := S1x64) ![0, 0] S1x64.size inb_S1x64_S1x64_0_0
abbrev r1_6 : Rect S512x64 := Rect.unit (s := S512x64) ![0, 0] S512x64.size inb_S512x64_S512x64_0_0

/-! ## What the body leaves in each output window's buffer -/

/-- Window 5's staging buffer after the body, from the input windows' blocks: its 1 store as pieces, LAST
    FIRST (Lib/Pipeline/FrameBody.lean `View.canon`; the payloads are the skeleton's). -/
def out1_5 (x0 : Vec F S512x1024 .f32) (x1 : Vec F S32x1024 .f32) (x2 : Vec F S1x32 .f32) (x3 : Vec F S64x1024 .f32) (x4 : Vec F S1x64 .f32) : Vec F S512x32 .f32 :=
  View.canon [⟨r1_3, k1_pay2 (View.ld x0 r1_0) (View.ld x1 r1_1) (View.ld x2 r1_2)⟩]

/-- Its stores tile the buffer (checked by evaluation), so they cover it. -/
theorem cover1_5 (p0 : Vec F S512x32 .f32) (y : S512x32.Idx) :
    ∃ pc ∈ ([⟨r1_3, p0⟩] : List (View.Piece (Elt F) S512x32 .f32)), y ∈ pc.1.set :=
  View.cover_of_tiled [⟨r1_3, p0⟩] S512x32.size (by rfl) y

/-- Window 6's staging buffer after the body, from the input windows' blocks: its 1 store as pieces, LAST
    FIRST (Lib/Pipeline/FrameBody.lean `View.canon`; the payloads are the skeleton's). -/
def out1_6 (x0 : Vec F S512x1024 .f32) (x1 : Vec F S32x1024 .f32) (x2 : Vec F S1x32 .f32) (x3 : Vec F S64x1024 .f32) (x4 : Vec F S1x64 .f32) : Vec F S512x64 .f32 :=
  View.canon [⟨r1_6, k1_pay3 (View.ld x0 r1_0) (View.ld x3 r1_4) (View.ld x4 r1_5)⟩]

/-- Its stores tile the buffer (checked by evaluation), so they cover it. -/
theorem cover1_6 (p0 : Vec F S512x64 .f32) (y : S512x64.Idx) :
    ∃ pc ∈ ([⟨r1_6, p0⟩] : List (View.Piece (Elt F) S512x64 .f32)), y ∈ pc.1.set :=
  View.cover_of_tiled [⟨r1_6, p0⟩] S512x64.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S512x1024 .f32) (harg0 : arg0.IsWhole) (arg1 : Memref sig .tc .vmem S32x1024 .f32) (harg1 : arg1.IsWhole) (arg2 : Memref sig .tc .vmem S1x32 .f32) (harg2 : arg2.IsWhole) (arg3 : Memref sig .tc .vmem S64x1024 .f32) (harg3 : arg3.IsWhole) (arg4 : Memref sig .tc .vmem S1x64 .f32) (harg4 : arg4.IsWhole) (arg5 : Memref sig .tc .vmem S512x32 .f32) (harg5 : arg5.IsWhole) (arg6 : Memref sig .tc .vmem S512x64 .f32) (harg6 : arg6.IsWhole)
    (x0 : Vec F S512x1024 .f32) (x1 : Vec F S32x1024 .f32) (x2 : Vec F S1x32 .f32) (x3 : Vec F S64x1024 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4) ∗ owns (c : Thread nD τ) arg6 fullShare (out1_6 x0 x1 x2 x3 x4)) -∗ K ⟨⟩))
      ⊢ wp frame (wpE (defs₀ (F := F)) Variants.none c none) E (cc1__proj_gq_kernel arg0 harg0 arg1 harg1 arg2 harg2 arg3 harg3 arg4 harg4 arg5 harg5 arg6 harg6) K := by
  simp only [cc1__proj_gq_kernel_eq_skeleton]; unfold cc1__proj_gq_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents, which a region's record cites for its arrays. -/
theorem A_eq1 (c : Dev nD) (w : Fin cfg1.W) : (dat1 V c).A w = V c (Pipeline.arrRef spec1 w) := by
  dsimp only [dat1]

/-- The body leaves input 0's buffer at its block. -/
theorem after1_0 (c : Dev nD) (t : Fin cfg1.N) : (dat1 V c).after 0 t = iblk1 V c 0 t := by dsimp only [dat1]
/-- The body leaves input 1's buffer at its block. -/
theorem after1_1 (c : Dev nD) (t : Fin cfg1.N) : (dat1 V c).after 1 t = iblk1 V c 1 t := by dsimp only [dat1]
/-- The body leaves input 2's buffer at its block. -/
theorem after1_2 (c : Dev nD) (t : Fin cfg1.N) : (dat1 V c).after 2 t = iblk1 V c 2 t := by dsimp only [dat1]
/-- The body leaves input 3's buffer at its block. -/
theorem after1_3 (c : Dev nD) (t : Fin cfg1.N) : (dat1 V c).after 3 t = iblk1 V c 3 t := by dsimp only [dat1]
/-- The body leaves input 4's buffer at its block. -/
theorem after1_4 (c : Dev nD) (t : Fin cfg1.N) : (dat1 V c).after 4 t = iblk1 V c 4 t := by dsimp only [dat1]
/-- The body leaves output 5's buffer at the contents its stores give. -/
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
/-- The body leaves output 6's buffer at the contents its stores give. -/
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Input 0's current buffer holds its block at every point, fetched there or not. -/
theorem before1_0 (c : Dev nD) (t : Fin cfg1.N) (d) : (dat1 V c).before 0 t d = iblk1 V c 0 t :=
  Dat.before_in_eq_fetched _ 0 rfl (fun _ => rfl) (fun _ _ _ => rfl) (after1_0 V c) t d
/-- Input 1's current buffer holds its block at every point, fetched there or not. -/
theorem before1_1 (c : Dev nD) (t : Fin cfg1.N) (d) : (dat1 V c).before 1 t d = iblk1 V c 1 t :=
  Dat.before_in_eq_fetched _ 1 rfl (fun _ => rfl) (fun _ _ _ => rfl) (after1_1 V c) t d
/-- Input 2's current buffer holds its block at every point, fetched there or not. -/
theorem before1_2 (c : Dev nD) (t : Fin cfg1.N) (d) : (dat1 V c).before 2 t d = iblk1 V c 2 t :=
  Dat.before_in_eq_fetched _ 2 rfl (fun _ => rfl) (fun _ _ _ => rfl) (after1_2 V c) t d
/-- Input 3's current buffer holds its block at every point, fetched there or not. -/
theorem before1_3 (c : Dev nD) (t : Fin cfg1.N) (d) : (dat1 V c).before 3 t d = iblk1 V c 3 t :=
  Dat.before_in_eq_fetched _ 3 rfl (fun _ => rfl) (fun _ _ _ => rfl) (after1_3 V c) t d
/-- Input 4's current buffer holds its block at every point, fetched there or not. -/
theorem before1_4 (c : Dev nD) (t : Fin cfg1.N) (d) : (dat1 V c).before 4 t d = iblk1 V c 4 t :=
  Dat.before_in_eq_fetched _ 4 rfl (fun _ => rfl) (fun _ _ _ => rfl) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__route_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses -/

abbrev r2_0 : Rect S512x32 := Rect.unit (s := S512x32) ![0, 0] S512x32.size inb_S512x32_S512x32_0_0
abbrev r2_1 : Rect S512x33 := Rect.unit (s := S512x33) ![0, 0] S512x33.size inb_S512x33_S512x33_0_0

/-! ## What the body leaves in each output window's buffer -/

/-! ### Values of the body that the stores' payloads, spelt out, would write more than once

    Each is a vector the body binds (often a part call's result), stated over the input windows' blocks and
    numbered on from the skeleton's payload functions (`k2_pay20` …, after `k2_pay19`), so that
    `out2_W` and the values after it name it instead of spelling it out; the comment after each is the printed function's
    name for the value (a count appended where that name is bound again). -/

def k2_pay20 (x0 : Vec F S512x32 .f32) : IVec S512x32 32 :=
  iota .tc S512x32 32 [1] iota_S512x32_d1_w32 -- `v11`
def k2_pay21 (x0 : Vec F S512x32 .f32) : FVec F S512x32 .f32 :=
  k2_pay8 (View.ld x0 r2_0) -- `v33`
def k2_pay22 (x0 : Vec F S512x32 .f32) : IVec S512x32 1 :=
  k2_pay10 (View.ld x0 r2_0) -- `v43`

/-- Window 1's staging buffer after the body, from the input windows' blocks: its 1 store as pieces, LAST
    FIRST (Lib/Pipeline/FrameBody.lean `View.canon`; the payloads are the skeleton's and the values stated above). -/
def out2_1 (x0 : Vec F S512x32 .f32) : Vec F S512x33 .f32 :=
  View.canon [⟨r2_1, k2_pay19 (k2_pay20 x0) (k2_pay5 (View.ld x0 r2_0)) (k2_pay7 (View.ld x0 r2_0)) (k2_pay21 x0) (k2_pay9 (View.ld x0 r2_0)) (k2_pay22 x0) (Scalar.ofBits .f32 0x00000000#32)⟩]

/-- Its stores tile the buffer (checked by evaluation), so they cover it. -/
theorem cover2_1 (p0 : Vec F S512x33 .f32) (y : S512x33.Idx) :
    ∃ pc ∈ ([⟨r2_1, p0⟩] : List (View.Piece (Elt F) S512x33 .f32)), y ∈ pc.1.set :=
  View.cover_of_tiled [⟨r2_1, p0⟩] S512x33.size (by rfl) y

/-- Window 2's staging buffer after the body, from the input windows' blocks: its 1 store as pieces, LAST
    FIRST (Lib/Pipeline/FrameBody.lean `View.canon`; the payloads are the skeleton's and the values stated above). -/
def out2_2 (x0 : Vec F S512x32 .f32) : Vec F S512x33 .f32 :=
  View.canon [⟨r2_1, k2_pay1 (k2_pay17 (k2_pay20 x0) (k2_pay6 (View.ld x0 r2_0)) (k2_pay21 x0) (k2_pay22 x0)) (k2_pay18 (F := F))⟩]

/-- Its stores tile the buffer (checked by evaluation), so they cover it. -/
theorem cover2_2 (p0 : Vec F S512x33 .f32) (y : S512x33.Idx) :
    ∃ pc ∈ ([⟨r2_1, p0⟩] : List (View.Piece (Elt F) S512x33 .f32)), y ∈ pc.1.set :=
  View.cover_of_tiled [⟨r2_1, p0⟩] S512x33.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (arg0 : Memref sig .tc .vmem S512x32 .f32) (harg0 : arg0.IsWhole) (arg1 : Memref sig .tc .vmem S512x33 .f32) (harg1 : arg1.IsWhole) (arg2 : Memref sig .tc .vmem S512x33 .f32) (harg2 : arg2.IsWhole)
    (x0 : Vec F S512x32 .f32) (K : PUnit → sProp 𝕄) :
    iprop(owns (c : Thread nD τ) arg0 fullShare x0 ∗ (∃ d, owns (c : Thread nD τ) arg1 fullShare d) ∗ (∃ d, owns (c : Thread nD τ) arg2 fullShare d)
        ∗ (iprop(owns (c : Thread nD τ) arg0 fullShare x0 ∗ owns (c : Thread nD τ) arg1 fullShare (out2_1 x0) ∗ owns (c : Thread nD τ) arg2 fullShare (out2_2 x0)) -∗ K ⟨⟩))
      ⊢ wp frame (wpE (defs₀ (F := F)) Variants.none c none) E (cc2__route_kernel arg0 harg0 arg1 harg1 arg2 harg2) K := by
  simp only [cc2__route_kernel_eq_skeleton]; unfold cc2__route_kernel_skel
  simp only [k2_part1_eq_skeleton, k2_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover2_1 _)).trans ?_
    rfl
  iexists _; isplitr
  swap; · iexact H2
  ipureintro
  refine (View.read_writes_eq_canon _ _ _ (cover2_2 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
    | ⟨2, _⟩ => out2_2 (iblk2 V c 0 t)
  Φ _ := Pipeline.ΦA spec2 c
  q _ := fullShare
  owed _ := 0

/-- The proof data's arrays are the region-entry contents, which a region's record cites for its arrays. -/
theorem A_eq2 (c : Dev nD) (w : Fin cfg2.W) : (dat2 V c).A w = V c (Pipeline.arrRef spec2 w) := by
  dsimp only [dat2]

/-- The body leaves input 0's buffer at its block. -/
theorem after2_0 (c : Dev nD) (t : Fin cfg2.N) : (dat2 V c).after 0 t = iblk2 V c 0 t := by dsimp only [dat2]
/-- The body leaves output 1's buffer at the contents its stores give. -/
theorem after2_1 (c : Dev nD) (t : Fin cfg2.N) : (dat2 V c).after 1 t = out2_1 (iblk2 V c 0 t) := by dsimp only [dat2]
/-- The body leaves output 2's buffer at the contents its stores give. -/
theorem after2_2 (c : Dev nD) (t : Fin cfg2.N) : (dat2 V c).after 2 t = out2_2 (iblk2 V c 0 t) := by dsimp only [dat2]

/-- Input 0's current buffer holds its block at every point, fetched there or not. -/
theorem before2_0 (c : Dev nD) (t : Fin cfg2.N) (d) : (dat2 V c).before 0 t d = iblk2 V c 0 t :=
  Dat.before_in_eq_fetched _ 0 rfl (fun _ => rfl) (fun _ _ _ => rfl) (after2_0 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3__attn_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

abbrev r3_0 : Rect S1x4x16x33 := Rect.unit (s := S1x4x16x33) ![0, 0, 0, 0] S1x4x16x33.size inb_S1x4x16x33_S1x4x16x33_0_0_0_0
abbrev r3_1 : Rect S1x1x2112 := Rect.unit (s := S1x1x2112) ![0, 0, 0] S1x1x2112.size inb_S1x1x2112_S1x1x2112_0_0_0
abbrev r3_2 : Rect S1x4x16x64 := Rect.unit (s := S1x4x16x64) ![0, 0, 0, 0] S1x4x16x64.size inb_S1x4x16x64_S1x4x16x64_0_0_0_0
abbrev r3_3 : Rect S1x4x528x64 := Rect.unit (s := S1x4x528x64) ![0, 0, 0, 0] S1x4x528x64.size inb_S1x4x528x64_S1x4x528x64_0_0_0_0
abbrev r3_4 : Rect S64x64 := Rect.unit (s := S64x64) ![0, 0] S64x64.size inb_S64x64_S64x64_0_0

/-! ## What the body leaves in each output window's buffer -/

/-! ### Values of the body that the stores' payloads, spelt out, would write more than once

    Each is a vector the body binds (often a part call's result), stated over the input windows' blocks and
    numbered on from the skeleton's payload functions (`k3_pay18` …, after `k3_pay17`), so that
    `out3_W` and the values after it name it instead of spelling it out; the comment after each is the printed function's
    name for the value (a count appended where that name is bound again). -/

def k3_pay18 (x0 : Vec F S1x4x16x33 .f32) (x1 : Vec F S1x1x2112 .f32) (x2 : Vec F S1x4x16x64 .f32) (x3 : Vec F S1x4x528x64 .f32) (x4 : Vec F S1x4x528x64 .f32) (x5 : Vec F S64x64 .f32) : FVec F S64x64 .f32 :=
  k3_pay4 (View.ld x2 r3_2) -- `v7`

/-- Window 6's staging buffer after the body, from the input windows' blocks: its 1 store as pieces, LAST
    FIRST (Lib/Pipeline/FrameBody.lean `View.canon`; the payloads are the skeleton's and the values stated above). -/
def out3_6 (x0 : Vec F S1x4x16x33 .f32) (x1 : Vec F S1x1x2112 .f32) (x2 : Vec F S1x4x16x64 .f32) (x3 : Vec F S1x4x528x64 .f32) (x4 : Vec F S1x4x528x64 .f32) (x5 : Vec F S64x64 .f32) : Vec F S1x4x16x64 .f32 :=
  View.canon [⟨r3_2, k3_pay1 (k3_pay18 x0 x1 x2 x3 x4 x5) (k3_pay6 (View.ld x4 r3_3)) (View.ld x5 r3_4) (k3_pay15 (iota .tc S64x2112 32 [0] iota_S64x2112_d0_w32) (iota .tc S64x2112 32 [1] iota_S64x2112_d1_w32) k3_pay11 528#32 k3_pay12 k3_pay13 k3_pay14) (k3_pay16 (k3_pay3 (View.ld x1 r3_1)) (k3_pay18 x0 x1 x2 x3 x4 x5) (k3_pay5 (View.ld x3 r3_3)) (k3_pay10 (k3_pay2 (View.ld x0 r3_0)) (iota .tc S33x528 32 [0] iota_S33x528_d0_w32) k3_pay7 k3_pay8 k3_pay9)) (k3_pay17 (F := F))⟩]

/-- Its stores tile the buffer (checked by evaluation), so they cover it. -/
theorem cover3_6 (p0 : Vec F S1x4x16x64 .f32) (y : S1x4x16x64.Idx) :
    ∃ pc ∈ ([⟨r3_2, p0⟩] : List (View.Piece (Elt F) S1x4x16x64 .f32)), y ∈ pc.1.set :=
  View.cover_of_tiled [⟨r3_2, p0⟩] S1x4x16x64.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S1x4x16x33 .f32) (harg1 : arg1.IsWhole) (arg2 : Memref sig .tc .vmem S1x1x2112 .f32) (harg2 : arg2.IsWhole) (arg3 : Memref sig .tc .vmem S1x4x16x64 .f32) (harg3 : arg3.IsWhole) (arg4 : Memref sig .tc .vmem S1x4x528x64 .f32) (harg4 : arg4.IsWhole) (arg5 : Memref sig .tc .vmem S1x4x528x64 .f32) (harg5 : arg5.IsWhole) (arg6 : Memref sig .tc .vmem S64x64 .f32) (harg6 : arg6.IsWhole) (arg7 : Memref sig .tc .vmem S1x4x16x64 .f32) (harg7 : arg7.IsWhole)
    (x0 : Vec F S1x4x16x33 .f32) (x1 : Vec F S1x1x2112 .f32) (x2 : Vec F S1x4x16x64 .f32) (x3 : Vec F S1x4x528x64 .f32) (x4 : Vec F S1x4x528x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__attn_kernel i arg1 harg1 arg2 harg2 arg3 harg3 arg4 harg4 arg5 harg5 arg6 harg6 arg7 harg7) K := by
  simp only [cc3__attn_kernel_eq_skeleton]; unfold cc3__attn_kernel_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover3_6 _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents, which a region's record cites for its arrays. -/
theorem A_eq3 (c : Dev nD) (w : Fin cfg3.W) : (dat3 V c).A w = V c (Pipeline.arrRef spec3 w) := by
  dsimp only [dat3]

/-- The body leaves input 0's buffer at its block. -/
theorem after3_0 (c : Dev nD) (t : Fin cfg3.N) : (dat3 V c).after 0 t = iblk3 V c 0 t := by dsimp only [dat3]
/-- The body leaves input 1's buffer at its block. -/
theorem after3_1 (c : Dev nD) (t : Fin cfg3.N) : (dat3 V c).after 1 t = iblk3 V c 1 t := by dsimp only [dat3]
/-- The body leaves input 2's buffer at its block. -/
theorem after3_2 (c : Dev nD) (t : Fin cfg3.N) : (dat3 V c).after 2 t = iblk3 V c 2 t := by dsimp only [dat3]
/-- The body leaves input 3's buffer at its block. -/
theorem after3_3 (c : Dev nD) (t : Fin cfg3.N) : (dat3 V c).after 3 t = iblk3 V c 3 t := by dsimp only [dat3]
/-- The body leaves input 4's buffer at its block. -/
theorem after3_4 (c : Dev nD) (t : Fin cfg3.N) : (dat3 V c).after 4 t = iblk3 V c 4 t := by dsimp only [dat3]
/-- The body leaves input 5's buffer at its block. -/
theorem after3_5 (c : Dev nD) (t : Fin cfg3.N) : (dat3 V c).after 5 t = iblk3 V c 5 t := by dsimp only [dat3]
/-- The body leaves output 6's buffer at the contents its stores give. -/
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Input 0's current buffer holds its block at every point, fetched there or not. -/
theorem before3_0 (c : Dev nD) (t : Fin cfg3.N) (d) : (dat3 V c).before 0 t d = iblk3 V c 0 t :=
  Dat.before_in_eq_fetched _ 0 rfl (fun _ => rfl) (fun _ _ _ => rfl) (after3_0 V c) t d
/-- Input 1's current buffer holds its block at every point, fetched there or not. -/
theorem before3_1 (c : Dev nD) (t : Fin cfg3.N) (d) : (dat3 V c).before 1 t d = iblk3 V c 1 t :=
  Dat.before_in_eq_fetched _ 1 rfl (fun _ => rfl) (fun _ _ _ => rfl) (after3_1 V c) t d
/-- Input 2's current buffer holds its block at every point, fetched there or not. -/
theorem before3_2 (c : Dev nD) (t : Fin cfg3.N) (d) : (dat3 V c).before 2 t d = iblk3 V c 2 t :=
  Dat.before_in_eq_fetched _ 2 rfl (fun _ => rfl) (fun _ _ _ => rfl) (after3_2 V c) t d
/-- Input 3's current buffer holds its block at every point, fetched there or not. -/
theorem before3_3 (c : Dev nD) (t : Fin cfg3.N) (d) : (dat3 V c).before 3 t d = iblk3 V c 3 t :=
  Dat.before_in_eq_fetched _ 3 rfl (fun _ => rfl) (fun _ _ _ => rfl) (after3_3 V c) t d
/-- Input 4's current buffer holds its block at every point, fetched there or not. -/
theorem before3_4 (c : Dev nD) (t : Fin cfg3.N) (d) : (dat3 V c).before 4 t d = iblk3 V c 4 t :=
  Dat.before_in_eq_fetched _ 4 rfl (fun _ => rfl) (fun _ _ _ => rfl) (after3_4 V c) t d
/-- Input 5's current buffer holds its block at every point, fetched there or not. -/
theorem before3_5 (c : Dev nD) (t : Fin cfg3.N) (d) : (dat3 V c).before 5 t d = iblk3 V c 5 t :=
  Dat.before_in_eq_fetched _ 5 rfl (fun _ => rfl) (fun _ _ _ => rfl) (after3_5 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_v0, main_call0_v1, main_call0_v2, main_call0_v3]
/-- Every operation of `hostOps0` writes only references of its list. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v5, main_call0_v6]
/-- Every operation of `hostOps1` writes only references of its list. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_call0_v9, main_call0_v10, main_call0_v11, main_call0_v12, main_call0_v13]
/-- Every operation of `hostOps3` writes only references of its list. -/
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_call0_v15, main_v0]
/-- Every operation of `hostOps4` writes only references of its list. -/
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The argument arrays are still as launched at boundary 0. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The argument arrays are still as launched at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- At boundary 2 the region's arrays hold what its pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of the region's arrays is at boundary 2 as it was before the region. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The argument arrays are still as launched at boundary 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Region 0 leaves every buffer outside its arrays as entered. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The argument arrays are still as launched at boundary 3. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
/-- At boundary 4 the region's arrays hold what its pipeline leaves. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A buffer that is none of the region's arrays is at boundary 4 as it was before the region. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The argument arrays are still as launched at boundary 4. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- Region 1 leaves every buffer outside its arrays as entered. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
/-- At boundary 5 the region's arrays hold what its pipeline leaves. -/
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
/-- A buffer that is none of the region's arrays is at boundary 5 as it was before the region. -/
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- The argument arrays are still as launched at boundary 5. -/
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
/-- Region 2 leaves every buffer outside its arrays as entered. -/
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
/-- The argument arrays are still as launched at boundary 6. -/
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references (what region 3's proof data take). -/
abbrev V6 : (c : Dev nD) → (b : Ref sig .tc) → Buf (Elt F) ((c : Thread nD τ).loc b) := fun c b => W6 m ρ c b
/-- At region 3's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec3 c (W6 m ρ c) fun w => (dat3 (V6 m ρ) c).arrAt w cfg3.N
/-- At boundary 7 the region's arrays hold what its pipeline leaves. -/
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
/-- A buffer that is none of the region's arrays is at boundary 7 as it was before the region. -/
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's OUTPUT arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
/-- The argument arrays are still as launched at boundary 7. -/
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V6 m ρ) c).arrAt w cfg3.N = V7 m ρ c (Pipeline.arrRef spec3 w) :=
  (W7_arr m ρ c w).symm
/-- Region 3 leaves every buffer outside its arrays as entered. -/
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After `hostOps4`. -/
abbrev W8 : Dev nD → Valuation τ sig (Elt F) := fun c => StableHlo.after hostOps4 (W7 m ρ c)
/-- A reference `hostOps4` does not write keeps its contents across it. -/
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
/-- The argument arrays are still as launched at boundary 8. -/
theorem W8_args (c : Dev nD) : ∀ a ∈ argRefs, W8 m ρ c (Proc.devRef .tc a) = m ((c : Thread nD τ).loc a) :=
  fun a ha => (W8_of m ρ c a (hostOps4_args a ha)).trans (W7_args m ρ c a ha)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
/-- No loop of the program has a variant to state. -/
abbrev 𝒱₀ : Variants := Variants.none
/-- No core owes another anything: no level is assigned. -/
abbrev L : GSem nD τ sig → Finset Unit := fun _ => ∅
/-- The levels, all zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

-- the library's lemmas speak of `pin pcs a p`, which is the pinned configuration by definition
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas speak of `pin pcs a p`, which is the pinned configuration by definition
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas speak of `pin pcs a p`, which is the pinned configuration by definition
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas speak of `pin pcs a p`, which is the pinned configuration by definition
set_option backward.isDefEq.respectTransparency.types false in
/-- REGION 3 (custom_call 3) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems` concludes this statement once plain definitions are unfolded
set_option backward.isDefEq.respectTransparency.types false in
/-- The run: from any memory with zero counters, every weakly fair execution of @main terminates with nothing faulting;
    the result buffer ends at the last boundary's contents `W8`, the argument arrays as launched and every semaphore counter
    at zero. The last thread state is read against the final state, each argument by `W8_<arg>`. -/
theorem run : θ_run defs (onTc (τ := τ) (main (F := F))) ⟨m, fun _ => 0, ρ⟩ (fun r => (∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v0 (by decide)), (h c _ (mem_uc main_arg0 (by decide))).trans (W8_args m ρ c main_arg0 (by decide)),
       (h c _ (mem_uc main_arg1 (by decide))).trans (W8_args m ρ c main_arg1 (by decide)),
       (h c _ (mem_uc main_arg2 (by decide))).trans (W8_args m ρ c main_arg2 (by decide)),
       (h c _ (mem_uc main_arg3 (by decide))).trans (W8_args m ρ c main_arg3 (by decide)),
       (h c _ (mem_uc main_arg4 (by decide))).trans (W8_args m ρ c main_arg4 (by decide)),
       (h c _ (mem_uc main_arg5 (by decide))).trans (W8_args m ρ c main_arg5 (by decide)),
       (h c _ (mem_uc main_arg6 (by decide))).trans (W8_args m ρ c main_arg6 (by decide)),
       (h c _ (mem_uc main_arg7 (by decide))).trans (W8_args m ρ c main_arg7 (by decide)),
       (h c _ (mem_uc main_arg8 (by decide))).trans (W8_args m ρ c main_arg8 (by decide)),
       (h c _ (mem_uc main_arg9 (by decide))).trans (W8_args m ρ c main_arg9 (by decide))⟩), funext fun g => hz g (.inr (no_unscoped g.2))⟩)

/-- The frame: `run` without the result — every weakly fair execution terminates, the argument arrays end as launched and
    every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (run m ρ)

end Cert.KernelIdeal.Whole

end
-- ==== Proof.Words.lean ====
/- The kernel's frame at words, from the run that `RunIdeal` states at every element type. -/
module

public import proofs.«01_k».proof.Defs
public import proofs.«01_k».proof.Proof.RunIdeal
public import proofs.«01_k».proof.Proof.Gen.Kernel.Launch
public import Idealize.ShloMosaic.Lib.Tactic

@[expose] public section

set_option maxRecDepth 16384

noncomputable section

namespace Cert.Words

open Idealize.ShloMosaic

/-- `Kernel` and `KernelIdeal` are one text under two names, so the run of `KernelIdeal` at words is the run of `Kernel`:
    it terminates, leaves the arguments as they were and every semaphore at zero. -/
theorem frame : @Cert.quiescent_Kernel Cert.Kernel.Gen.facts :=
  Eq.mpr (by sl_kernel_rfl) fun (m : (ℓ : Loc Cert.KernelIdeal.nD Cert.KernelIdeal.τ Cert.KernelIdeal.sig) → Buf (Elt Bits) ℓ)
    (ρ : Dev Cert.KernelIdeal.nD → PrngReg) (_ : True) => Cert.KernelIdeal.Whole.frame (F := Bits) m ρ

end Cert.Words

end
-- ==== Proof.Proj.lean ====
/- The two projection kernels' payloads, entry by entry. -/
module

public import proofs.«01_k».proof.Proof.Gen.KernelIdeal.Skeleton
public import Idealize.ShloMosaic.Lib.Pointwise

@[expose] public section

set_option maxRecDepth 16384

noncomputable section

namespace Cert.Proj

open Idealize.ShloMosaic
open Cert.KernelIdeal Cert.KernelIdeal.Gen

/-- The first chunk of the key projection: the bias and the first partial product. -/
theorem pay4_at (x : FVec Ideal S512x256 .f32) (w : FVec Ideal S2112x256 .f32) (b : FVec Ideal S1x2112 .f32)
    (j : S512x2112.Idx) :
    k0_pay4 x w b j = b (ix2 0 (j 1)) + ∑ i : Fin 256, x (ix2 (j 0) i) * w (ix2 (j 1) i) := by
  pointwise [k0_pay4, k0_pay2, k0_pay1]
  exact add_comm _ _

/-- The first chunk of the value projection: the bias and the first partial product. -/
theorem pay5_at (x : FVec Ideal S512x256 .f32) (w : FVec Ideal S2112x256 .f32) (b : FVec Ideal S1x2112 .f32)
    (j : S512x2112.Idx) :
    k0_pay5 x w b j = b (ix2 0 (j 1)) + ∑ i : Fin 256, x (ix2 (j 0) i) * w (ix2 (j 1) i) := by
  pointwise [k0_pay5, k0_pay3, k0_pay1]
  exact add_comm _ _

/-- A later chunk of the key projection: what was there and the chunk's partial product. -/
theorem pay6_at (x : FVec Ideal S512x256 .f32) (w : FVec Ideal S2112x256 .f32) (a : FVec Ideal S512x2112 .f32)
    (j : S512x2112.Idx) :
    k0_pay6 x w a j = a j + ∑ i : Fin 256, x (ix2 (j 0) i) * w (ix2 (j 1) i) := by
  pointwise [k0_pay6, k0_pay2, k0_pay1]

/-- A later chunk of the value projection: what was there and the chunk's partial product. -/
theorem pay7_at (x : FVec Ideal S512x256 .f32) (w : FVec Ideal S2112x256 .f32) (a : FVec Ideal S512x2112 .f32)
    (j : S512x2112.Idx) :
    k0_pay7 x w a j = a j + ∑ i : Fin 256, x (ix2 (j 0) i) * w (ix2 (j 1) i) := by
  pointwise [k0_pay7, k0_pay3, k0_pay1]

/-- The routing logits. -/
theorem gate_at (x : FVec Ideal S512x1024 .f32) (w : FVec Ideal S32x1024 .f32) (b : FVec Ideal S1x32 .f32)
    (j : S512x32.Idx) :
    k1_pay2 x w b j = (∑ i : Fin 1024, x (ix2 (j 0) i) * w (ix2 (j 1) i)) + b (ix2 0 (j 1)) := by
  pointwise [k1_pay2, k1_pay1]

/-- The queries. -/
theorem query_at (x : FVec Ideal S512x1024 .f32) (w : FVec Ideal S64x1024 .f32) (b : FVec Ideal S1x64 .f32)
    (j : S512x64.Idx) :
    k1_pay3 x w b j = (∑ i : Fin 1024, x (ix2 (j 0) i) * w (ix2 (j 1) i)) + b (ix2 0 (j 1)) := by
  pointwise [k1_pay3, k1_pay1]

end Cert.Proj
end
-- ==== Proof.TopK.lean ====
/-
  The four greatest of thirty-two scores: what picking the first greatest one four times and what a stable
  sort by score have in common.
-/
module

public import Idealize.ShloMosaic.Lib.SortFacts
public import Mathlib.Data.EReal.Operations

@[expose] public section

noncomputable section

namespace Cert.TopK

open Idealize.ShloMosaic

variable {n k : ℕ}

/-- Position `a` stands before position `b`: its score is greater, or equal and it is the earlier position. -/
def Ahead (f : Fin n → EReal) (a b : Fin n) : Prop := f b < f a ∨ (f a = f b ∧ a < b)

/-- `p` lists the `k` foremost positions in order. -/
def Ranks (f : Fin n → EReal) (p : Fin k → Fin n) : Prop :=
  ∀ r, (∀ q, q < r → p q ≠ p r) ∧ ∀ m, (∀ q, q < r → p q ≠ m) → ¬ Ahead f m (p r)

/-- Of two positions neither of which stands before the other, both are the same. -/
theorem eq_of_not_ahead {f : Fin n → EReal} {a b : Fin n} (h : ¬ Ahead f a b) (h' : ¬ Ahead f b a) : a = b := by
  unfold Ahead at h h'
  push Not at h h'
  have e : f a = f b := le_antisymm h.1 h'.1
  exact le_antisymm (h'.2 e.symm) (h.2 e)

/-- Two lists of the foremost positions are the same. -/
theorem Ranks.unique {f : Fin n → EReal} {p q : Fin k → Fin n} (hp : Ranks f p) (hq : Ranks f q) : p = q := by
  have main : ∀ (v : ℕ) (hv : v < k), p ⟨v, hv⟩ = q ⟨v, hv⟩ := by
    intro v
    induction v using Nat.strong_induction_on with
    | _ v ih =>
      intro hv
      have e : ∀ r : Fin k, r < ⟨v, hv⟩ → p r = q r := fun r hr => ih r.val hr r.isLt
      refine eq_of_not_ahead ((hq ⟨v, hv⟩).2 _ fun r hr => ?_) ((hp ⟨v, hv⟩).2 _ fun r hr => ?_)
      · rw [← e r hr]; exact (hp ⟨v, hv⟩).1 r hr
      · rw [e r hr]; exact (hq ⟨v, hv⟩).1 r hr
  funext r
  exact main r.val r.isLt

/-- A list of the foremost positions names no position twice. -/
theorem Ranks.injective {f : Fin n → EReal} {p : Fin k → Fin n} (hp : Ranks f p) : Function.Injective p := by
  intro a b h
  rcases lt_trichotomy a b with hl | hl | hl
  · exact absurd h ((hp b).1 a hl)
  · exact hl
  · exact absurd h.symm ((hp a).1 b hl)

/-! ### A stable sort -/

section sorted
open Classical

/-- Sorting by score alone, later positions never get before earlier ones of the same score. -/
theorem stableSort_ahead (f : Fin n → EReal) (l : List (Fin n)) (hl : l.Pairwise (· < ·)) :
    stableSort (fun a b => decide (f b < f a)) l = stableSort (fun a b => decide (Ahead f a b)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    refine decide_eq_decide.mpr ⟨Or.inl, fun h => h.elim id fun h => absurd h.2 hab.asymm⟩

/-- The first entries of a stable sort by score are the foremost positions. -/
theorem ranks_sorted (f : Fin n → EReal) (hk : k ≤ n) :
    Ranks f fun r : Fin k => sortedFrom (fun a b => decide (f b < f a)) (r.castLE hk) := by
  have e : sortedFrom (fun a b => decide (f b < f a)) = sortedFrom fun a b => decide (Ahead f a b) := by
    funext i
    unfold sortedFrom
    have h : sortPositions n (fun a b => decide (f b < f a)) = sortPositions n fun a b => decide (Ahead f a b) :=
      stableSort_ahead f _ (List.pairwise_lt_finRange n)
    rw [List.get_of_eq h]
    rfl
  rw [e]
  have inj := sortedFrom_injective fun a b : Fin n => decide (Ahead f a b)
  have sur := sortedFrom_surjective fun a b : Fin n => decide (Ahead f a b)
  intro r
  refine ⟨fun q hq h => ?_, fun m hm => ?_⟩
  · have h1 := congrArg Fin.val (inj h)
    have h2 : q.val = r.val := h1
    exact absurd (Fin.ext h2) (ne_of_lt hq)
  · obtain ⟨i, rfl⟩ := sur m
    have hri : r.castLE hk ≤ i := by
      by_contra hlt
      rw [not_le] at hlt
      have hi : i.val < k := lt_trans (Fin.lt_def.mp hlt) r.isLt
      exact hm ⟨i.val, hi⟩ (Fin.lt_def.mpr hlt) rfl
    rcases lt_or_eq_of_le hri with hlt | heq
    · have h := sortedFrom_noInversion (fun a b : Fin n => decide (Ahead f a b)) (fun a b : Fin n => decide (Ahead f a b))
        (fun a b h => decide_eq_false fun h' => by
          have h := of_decide_eq_true h
          rcases h with h | h <;> rcases h' with h' | h'
          · exact lt_asymm h h'
          · rw [h'.1] at h; exact lt_irrefl _ h
          · rw [h.1] at h'; exact lt_irrefl _ h'
          · exact lt_asymm h.2 h'.2)
        (fun a b h => h)
        (fun a b c hab hbc => decide_eq_false fun hac => by
          have hab := of_decide_eq_false hab
          have hbc := of_decide_eq_false hbc
          unfold Ahead at hab hbc hac
          push Not at hab hbc
          rcases hac with h | h
          · exact absurd h (not_lt.mpr (hab.1.trans hbc.1))
          · have e1 : f a = f b := le_antisymm hab.1 (h.1 ▸ hbc.1)
            have e2 : f b = f c := e1.symm.trans h.1
            exact absurd h.2 (not_lt.mpr ((hbc.2 e2).trans (hab.2 e1))))
        _ _ hlt
      exact of_decide_eq_false h
    · show ¬ Ahead f (sortedFrom _ i) (sortedFrom _ (r.castLE hk))
      rw [heq]
      rintro (h | h)
      · exact lt_irrefl _ h
      · exact lt_irrefl _ h.2

end sorted

/-! ### Rounds -/

/-- `a` is the first position of the greatest score. -/
def IsFirstMax (f : Fin n → EReal) (a : Fin n) : Prop := ∀ m, ¬ Ahead f m a

/-- The first position of the greatest score has the greatest score. -/
theorem IsFirstMax.le {f : Fin n → EReal} {a : Fin n} (h : IsFirstMax f a) (m : Fin n) : f m ≤ f a :=
  not_lt.1 fun hl => h m (Or.inl hl)

/-- So it is the row's supremum. -/
theorem IsFirstMax.sup {f : Fin n → EReal} {a : Fin n} (h : IsFirstMax f a) : Finset.univ.sup f = f a :=
  le_antisymm (Finset.sup_le fun m _ => h.le m) (Finset.le_sup (f := f) (Finset.mem_univ a))

/-- Positions of the same score come later. -/
theorem IsFirstMax.first {f : Fin n → EReal} {a : Fin n} (h : IsFirstMax f a) (m : Fin n) (hm : f m = f a) : a ≤ m :=
  not_lt.1 fun hl => h m (Or.inr ⟨hm, hl⟩)

/-- Once the foremost positions are struck out, the next one is the first of the greatest score. -/
theorem Ranks.next {f : Fin n → EReal} {p : Fin k → Fin n} (hp : Ranks f p) (hf : ∀ m, -1 < f m) (w : Fin n → EReal) (r : Fin k)
    (hs : ∀ q, q < r → w (p q) = -1) (hu : ∀ m, (∀ q, q < r → p q ≠ m) → w m = f m) : IsFirstMax w (p r) := by
  intro m
  have hr := hu (p r) (hp r).1
  by_cases h : ∀ q, q < r → p q ≠ m
  · unfold Ahead
    rw [hu m h, hr]
    exact (hp r).2 m h
  · push Not at h
    obtain ⟨q, hq, rfl⟩ := h
    unfold Ahead
    rw [hs q hq, hr]
    rintro (h | ⟨h, -⟩)
    · exact absurd (h.trans (hf _)) (lt_irrefl _)
    · exact absurd (hf (p r)) (by rw [← h]; exact lt_irrefl _)

/-- Scores with one position struck out. -/
def strike (w : Fin n → EReal) (a : Fin n) (m : Fin n) : EReal := if m = a then -1 else w m

/-- A struck position. -/
theorem strike_self (w : Fin n → EReal) (a : Fin n) : strike w a a = -1 := if_pos rfl

/-- Another position. -/
theorem strike_ne (w : Fin n → EReal) {a m : Fin n} (h : m ≠ a) : strike w a m = w m := if_neg h

section four

variable {f : Fin n → EReal} {p : Fin 4 → Fin n} (hp : Ranks f p) (hf : ∀ m, -1 < f m)
include hp hf

/-- The first round. -/
theorem Ranks.round0 : IsFirstMax f (p 0) :=
  hp.next hf f 0 (fun q hq => absurd hq (Fin.not_lt_zero q)) fun _ _ => rfl

/-- The second round. -/
theorem Ranks.round1 : IsFirstMax (strike f (p 0)) (p 1) := by
  refine hp.next hf _ 1 (fun q hq => ?_) fun m hm => strike_ne _ (hm 0 (by decide)).symm
  obtain rfl : q = 0 := by revert q; decide
  exact strike_self _ _

/-- The third round. -/
theorem Ranks.round2 : IsFirstMax (strike (strike f (p 0)) (p 1)) (p 2) := by
  refine hp.next hf _ 2 (fun q hq => ?_) fun m hm =>
    (strike_ne _ (hm 1 (by decide)).symm).trans (strike_ne _ (hm 0 (by decide)).symm)
  obtain rfl | rfl : q = 0 ∨ q = 1 := by revert q; decide
  · exact (strike_ne _ fun h => absurd (hp.injective h) (by decide)).trans (strike_self _ _)
  · exact strike_self _ _

/-- The fourth round. -/
theorem Ranks.round3 : IsFirstMax (strike (strike (strike f (p 0)) (p 1)) (p 2)) (p 3) := by
  refine hp.next hf _ 3 (fun q hq => ?_) fun m hm => (strike_ne _ (hm 2 (by decide)).symm).trans
    ((strike_ne _ (hm 1 (by decide)).symm).trans (strike_ne _ (hm 0 (by decide)).symm))
  have ne : ∀ a b : Fin 4, a ≠ b → p a ≠ p b := fun a b h h' => h (hp.injective h')
  obtain rfl | rfl | rfl : q = 0 ∨ q = 1 ∨ q = 2 := by revert q; decide
  · exact (strike_ne _ (ne _ _ (by decide))).trans ((strike_ne _ (ne _ _ (by decide))).trans (strike_self _ _))
  · exact (strike_ne _ (ne _ _ (by decide))).trans (strike_self _ _)
  · exact strike_self _ _

omit hf in
/-- What the second round finds. -/
theorem Ranks.found1 : strike f (p 0) (p 1) = f (p 1) := strike_ne _ fun h => absurd (hp.injective h) (by decide)

omit hf in
/-- What the third round finds. -/
theorem Ranks.found2 : strike (strike f (p 0)) (p 1) (p 2) = f (p 2) :=
  (strike_ne _ fun h => absurd (hp.injective h) (by decide)).trans (strike_ne _ fun h => absurd (hp.injective h) (by decide))

omit hf in
/-- What the fourth round finds. -/
theorem Ranks.found3 : strike (strike (strike f (p 0)) (p 1)) (p 2) (p 3) = f (p 3) :=
  (strike_ne _ fun h => absurd (hp.injective h) (by decide)).trans
    ((strike_ne _ fun h => absurd (hp.injective h) (by decide)).trans (strike_ne _ fun h => absurd (hp.injective h) (by decide)))

end four

end Cert.TopK

end
-- ==== Proof.Spec.lean ====
/- The mathematics of the problem over the extended reals, index by index, free of either program. -/
module

public import proofs.«01_k».proof.Proof.TopK
public import Idealize.ShloMosaic.PureOps.Ideal

@[expose] public section

noncomputable section

namespace Cert.Spec

open Idealize.ShloMosaic

/-- The ten arguments, read at their indices. -/
structure Args where
  X : Fin 16 → Fin 32 → Fin 1024 → EReal
  M0 : Fin 64 → Fin 64 → EReal
  Wk : Fin 2112 → Fin 1024 → EReal
  bk : Fin 2112 → EReal
  Wv : Fin 2112 → Fin 1024 → EReal
  bv : Fin 2112 → EReal
  Wg : Fin 32 → Fin 1024 → EReal
  bg : Fin 32 → EReal
  Wq : Fin 64 → Fin 1024 → EReal
  bq : Fin 64 → EReal

/-- The row of a projection that belongs to slot `n`, coordinate `d`. -/
def lane (n : Fin 33) (d : Fin 64) : Fin 2112 := ⟨n.val * 64 + d.val, by omega⟩

variable (A : Args) (t : Fin 16) (b : Fin 32)

/-- The router's logit. -/
def logit (m : Fin 32) : EReal := (∑ i, A.X t b i * A.Wg m i) + A.bg m

/-- The largest logit of a row. -/
def top : EReal := Finset.univ.sup (logit A t b)

/-- A logit's exponential, shifted by the largest. -/
def expo (m : Fin 32) : EReal := Ideal.exp (logit A t b m - top A t b)

/-- The softmax score. -/
def score (m : Fin 32) : EReal := Ideal.div (expo A t b m) (∑ m', expo A t b m')

/-- The four best states, best first, the lower index first among equals. -/
def best (r : Fin 4) : Fin 32 :=
  sortedFrom (fun a a' => decide (score A t b a' < score A t b a)) (r.castLE (by decide : 4 ≤ 32))

/-- The slot of the `r`-th best state. -/
def slot (r : Fin 4) : Fin 33 := (best A t b r).succ

/-- The gate of the `r`-th best state. -/
def gate (r : Fin 4) : EReal := Ideal.div (score A t b (best A t b r)) (∑ r', score A t b (best A t b r'))

/-- The weight of slot `n` in what step `t` reads: one for the shared slot, the gate for the best states' slots, else nought. -/
def weight (n : Fin 33) : EReal :=
  Fin.cases 1 (fun m => Ideal.div (∑ r, if m = best A t b r then score A t b m else 0) (∑ r, score A t b (best A t b r))) n

/-- The mark of the slots step `t` writes. -/
def mark (n : Fin 33) : EReal := Fin.cases 1 (fun m => if ∃ r, m = best A t b r then 1 else 0) n

/-- The key written to slot `n`. -/
def key (n : Fin 33) (d : Fin 64) : EReal := (∑ i, A.X t b i * A.Wk (lane n d) i) + A.bk (lane n d)

/-- The value written to slot `n`. -/
def val (n : Fin 33) (e : Fin 64) : EReal := (∑ i, A.X t b i * A.Wv (lane n e) i) + A.bv (lane n e)

/-- The query. -/
def query (d : Fin 64) : EReal := (∑ i, A.X t b i * A.Wq d i) + A.bq d

/-- Whether step `t` writes slot `n`. -/
def writes (n : Fin 33) : Prop := n = 0 ∨ ∃ r, n = slot A t b r

open Classical in
/-- The memory after `k` steps. -/
def mem (k : ℕ) (n : Fin 33) (d e : Fin 64) : EReal :=
  A.M0 d e + ∑ s ∈ Finset.univ.filter (fun s : Fin 16 => s.val < k ∧ writes A s b n), key A s b n d * val A s b n e

/-- The memory read at step `t`. -/
def mixed (d e : Fin 64) : EReal :=
  (∑ r, mem A b (t.val + 1) (slot A t b r) d e * gate A t b r) + mem A b (t.val + 1) 0 d e

/-- The output. -/
def out (e : Fin 64) : EReal := ∑ d, query A t b d * mixed A t b d e

/-- The fused form of the output: every write weighed by its gate and mark, and the initial memory counted twice. -/
def fused (e : Fin 64) : EReal :=
  (∑ s : Fin 16, ∑ n : Fin 33, if s.val ≤ t.val then
      ((∑ d : Fin 64, query A t b d * key A s b n d) * weight A t b n * mark A s b n) * val A s b n e else 0)
    + 2 * ∑ d : Fin 64, query A t b d * A.M0 d e

end Cert.Spec

end
-- ==== Proof.Route.lean ====
/- The routing kernel, row by row: the softmax scores, four rounds of striking out the best, gates and marks. -/
module

public import proofs.«01_k».proof.Proof.Gen.KernelIdeal.Skeleton
public import proofs.«01_k».proof.Proof.Spec
public import Idealize.ShloMosaic.Lib.Pointwise
public import Idealize.ShloMosaic.Lib.SortNet.Extract

@[expose] public section

set_option maxRecDepth 16384

noncomputable section

namespace Cert.Route

open Idealize.ShloMosaic
open Cert.KernelIdeal Cert.KernelIdeal.Gen Cert.Spec Cert.TopK

/-- The word of minus infinity. -/
theorem ofBits_bot : Ideal.ofBits .f32 0xFF800000#32 = ⊥ := by simp [Ideal.ofBits, Ideal.ieee]

/-- The word of minus one. -/
theorem ofBits_neg_one : Ideal.ofBits .f32 0xBF800000#32 = -1 := by
  simp [Ideal.ofBits, Ideal.ieee]
  rw [← EReal.coe_mul]
  norm_num

/-- A column's number as an integer. -/
theorem toInt32 (a : Fin 32) : (BitVec.ofNat 32 a.val).toInt = a.val := by
  revert a; decide

/-- Two columns' numbers compared. -/
theorem eq32 (n a : Fin 32) : IntOp.cmpi .eq (BitVec.ofNat 32 n.val) (BitVec.ofNat 32 a.val) = if n = a then 1#1 else 0#1 := by
  revert n a; decide

/-- The least of a row of words of which one is `a` and none is less. -/
theorem least_word (g : Fin 32 → BitVec 32) (a : Fin 32) (ha : g a = BitVec.ofNat 32 a.val) (hm : ∀ x, (a.val : ℤ) ≤ (g x).toInt) :
    Finset.fold IntOp.minsi 2147483647#32 g Finset.univ = BitVec.ofNat 32 a.val := by
  have hi : (BitVec.ofNat 32 a.val).toInt = a.val := toInt32 a
  apply BitVec.eq_of_toInt_eq
  rw [← Finset.fold_hom (op' := min) (m := BitVec.toInt) fun x y => (SortNet.toInt_minsi x y), hi]
  refine le_antisymm ((Finset.fold_min_le _).2 (Or.inr ⟨a, Finset.mem_univ _, ?_⟩)) ((Finset.le_fold_min _).2 ⟨?_, fun x _ => hm x⟩)
  · rw [ha, hi]
  · have := a.isLt
    show (a.val : ℤ) ≤ 2147483647
    omega

/-- The columns. -/
def cols : IVec S512x32 32 := iota .tc S512x32 32 [1] iota_S512x32_d1_w32

/-- The rows' largest entries. -/
def peak (w : FVec Ideal S512x32 .f32) : FVec Ideal S512x1 .f32 :=
  shapeCast S512x1 (multiReduction .maximumf [1] S512 w 0xFF800000#32 reduces_S512x32_S512 (.inl rfl) rfl) shapeCasts_S512_S512x1

/-- The mark of each row's first largest entry. -/
def hot (w : FVec Ideal S512x32 .f32) : IVec S512x32 1 :=
  cmpi .eq cols (broadcastTo S512x32 (shapeCast S512x1 (multiReductionI .minsi [1] S512
    (select (cmpf .oeq w (broadcastTo S512x32 (peak w) broadcasts_S512x1_S512x32)) cols (broadcast S512x32 32#32))
    2147483647#32 reduces_S512x32_S512 rfl) shapeCasts_S512_S512x1) broadcasts_S512x1_S512x32)

/-- A row's largest entry is the entry where the first largest one stands. -/
theorem peak_at (w : FVec Ideal S512x32 .f32) (r : Fin 512) (a : Fin 32) (h : IsFirstMax (fun m => w (ix2 r m)) a) :
    peak w (ix2 r 0) = w (ix2 r a) := by
  pointwise [peak]
  rw [ofBits_bot]
  exact h.sup

/-- The mark is one exactly where the first largest entry stands. -/
theorem hot_at (w : FVec Ideal S512x32 .f32) (r : Fin 512) (a : Fin 32) (h : IsFirstMax (fun m => w (ix2 r m)) a) (n : Fin 32) :
    hot w (ix2 r n) = if n = a then 1#1 else 0#1 := by
  pointwise [hot, cols, peak_at w r a h]
  rw [least_word _ a (if_pos rfl) fun x => ?_]
  · exact eq32 n a
  · by_cases hx : w (ix2 r x) = w (ix2 r a)
    · rw [if_pos hx, toInt32]
      exact_mod_cast h.first x hx
    · rw [if_neg hx]
      have := a.isLt
      show (a.val : ℤ) ≤ 32
      omega

/-- The softmax written by the third call is the score. -/
theorem pay2_at (A : Args) (t : Fin 16) (b : Fin 32) (y : FVec Ideal S512x32 .f32) (r : Fin 512)
    (h : ∀ m, y (ix2 r m) = logit A t b m) (m : Fin 32) : k2_pay2 (F := Ideal) y (ix2 r m) = score A t b m := by
  pointwise [k2_pay2, h, score, expo, top]
  rw [ofBits_bot]
  rfl

/-- The first round's mark is the mark of the first largest score. -/
theorem pay4_eq (y : FVec Ideal S512x32 .f32) : k2_pay4 (F := Ideal) y = hot (k2_pay2 (F := Ideal) y) := rfl
/-- The second round's mark, likewise of what the first round left. -/
theorem pay10_eq (y : FVec Ideal S512x32 .f32) : k2_pay10 (F := Ideal) y = hot (k2_pay8 (F := Ideal) y) := rfl
/-- The third round's mark. -/
theorem pay13_eq (w : FVec Ideal S512x32 .f32) (o : IVec S512x32 1) :
    k2_pay13 (F := Ideal) cols w o = hot (k2_pay11 (F := Ideal) w o) := rfl
/-- The fourth round's mark. -/
theorem pay16_eq (w : FVec Ideal S512x32 .f32) (o : IVec S512x32 1) :
    k2_pay16 (F := Ideal) cols w o = hot (k2_pay14 (F := Ideal) cols w o) := rfl

/-- An entry struck out where the mark stands. -/
theorem struck_at (w : FVec Ideal S512x32 .f32) (o : IVec S512x32 1) (r : Fin 512) (f : Fin 32 → EReal) (a : Fin 32)
    (hw : ∀ m, w (ix2 r m) = f m) (ho : ∀ m, o (ix2 r m) = if m = a then 1#1 else 0#1) (m : Fin 32) :
    k2_pay11 (F := Ideal) w o (ix2 r m) = strike f a m := by
  pointwise [k2_pay11, hw, ho]
  rw [ofBits_neg_one]
  unfold strike
  by_cases h : m = a
  · rw [if_pos h, if_pos h]; rfl
  · rw [if_neg h, if_neg h]; rfl

/-- A choice by a mark. -/
theorem select_mark (P : Prop) [Decidable P] (x y : EReal) : Scalar.select (if P then 1#1 else 0#1) x y = if P then x else y := by
  by_cases h : P
  · rw [if_pos h, if_pos h]; rfl
  · rw [if_neg h, if_neg h]; rfl

/-- A mark as a number. -/
theorem mark_number (P : Prop) [Decidable P] :
    FloatOps.sitofp (F := Ideal) FTy.f32 (BitVec.setWidth 32 (if P then 1#1 else 0#1)) = if P then (1 : EReal) else 0 := by
  by_cases h : P
  · rw [if_pos h, if_pos h]
    show (((1 : ℤ) : ℝ) : EReal) = 1
    simp
  · rw [if_neg h, if_neg h]
    show (((0 : ℤ) : ℝ) : EReal) = 0
    simp

/-- A struck score at a place still standing. -/
theorem if_found (p : Fin 32) (f g : Fin 32 → EReal) (h : f p = g p) (m : Fin 32) : (if m = p then f m else 0) = if m = p then g m else 0 := by
  by_cases hm : m = p
  · rw [if_pos hm, if_pos hm, hm, h]
  · rw [if_neg hm, if_neg hm]

/-- The largest of four marks. -/
theorem max_marks (P : Fin 4 → Prop) [DecidablePred P] [Decidable (∃ r, P r)] :
    max (max (max (max 0 (if P 0 then (1 : EReal) else 0)) (if P 1 then 1 else 0)) (if P 2 then 1 else 0)) (if P 3 then 1 else 0)
      = if ∃ r, P r then 1 else 0 := by
  have h01 : (0 : EReal) ≤ 1 := zero_le_one
  by_cases h : ∃ r, P r
  · rw [if_pos h]
    have e : P 0 ∨ P 1 ∨ P 2 ∨ P 3 := by
      obtain ⟨r, hr⟩ := h
      match r with
      | 0 => exact Or.inl hr
      | 1 => exact Or.inr (Or.inl hr)
      | 2 => exact Or.inr (Or.inr (Or.inl hr))
      | 3 => exact Or.inr (Or.inr (Or.inr hr))
    split_ifs <;> simp_all
  · rw [if_neg h]
    push Not at h
    simp [h]

/-- The best states stand in the order of their scores. -/
theorem ranks (A : Args) (t : Fin 16) (b : Fin 32) : Ranks (score A t b) (best A t b) := ranks_sorted (score A t b) (by decide : 4 ≤ 32)

section row

variable {A : Args} {t : Fin 16} {b : Fin 32} {y : FVec Ideal S512x32 .f32} {r : Fin 512}
  (h : ∀ m, y (ix2 r m) = logit A t b m) (hf : ∀ m, -1 < score A t b m)
include h hf

/-- The first round's mark. -/
theorem mark0 (m : Fin 32) : k2_pay4 (F := Ideal) y (ix2 r m) = if m = best A t b 0 then 1#1 else 0#1 := by
  rw [pay4_eq]
  refine hot_at _ r _ ?_ m
  simp only [pay2_at A t b y r h]
  exact (ranks A t b).round0 hf

/-- The second round's scores. -/
theorem work1 (m : Fin 32) : k2_pay8 (F := Ideal) y (ix2 r m) = strike (score A t b) (best A t b 0) m :=
  struck_at (k2_pay2 (F := Ideal) y) (k2_pay4 (F := Ideal) y) r _ _ (pay2_at A t b y r h) (mark0 h hf) m

/-- The second round's mark. -/
theorem mark1 (m : Fin 32) : k2_pay10 (F := Ideal) y (ix2 r m) = if m = best A t b 1 then 1#1 else 0#1 := by
  rw [pay10_eq]
  refine hot_at _ r _ ?_ m
  simp only [work1 h hf]
  exact (ranks A t b).round1 hf

/-- The third round's scores. -/
theorem work2 (m : Fin 32) : k2_pay11 (F := Ideal) (k2_pay8 (F := Ideal) y) (k2_pay10 (F := Ideal) y) (ix2 r m)
    = strike (strike (score A t b) (best A t b 0)) (best A t b 1) m :=
  struck_at _ _ r _ _ (work1 h hf) (mark1 h hf) m

/-- The third round's mark. -/
theorem mark2 (m : Fin 32) : k2_pay13 (F := Ideal) cols (k2_pay8 (F := Ideal) y) (k2_pay10 (F := Ideal) y) (ix2 r m) = if m = best A t b 2 then 1#1 else 0#1 := by
  rw [pay13_eq]
  refine hot_at _ r _ ?_ m
  simp only [work2 h hf]
  exact (ranks A t b).round2 hf

/-- The fourth round's scores. -/
theorem work3 (m : Fin 32) : k2_pay14 (F := Ideal) cols (k2_pay8 (F := Ideal) y) (k2_pay10 (F := Ideal) y) (ix2 r m)
    = strike (strike (strike (score A t b) (best A t b 0)) (best A t b 1)) (best A t b 2) m :=
  struck_at (k2_pay11 (F := Ideal) (k2_pay8 (F := Ideal) y) (k2_pay10 (F := Ideal) y)) (k2_pay13 (F := Ideal) cols (k2_pay8 (F := Ideal) y) (k2_pay10 (F := Ideal) y)) r _ _
    (work2 h hf) (mark2 h hf) m

/-- The fourth round's mark. -/
theorem mark3 (m : Fin 32) : k2_pay16 (F := Ideal) cols (k2_pay8 (F := Ideal) y) (k2_pay10 (F := Ideal) y) (ix2 r m) = if m = best A t b 3 then 1#1 else 0#1 := by
  rw [pay16_eq]
  refine hot_at _ r _ ?_ m
  simp only [work3 h hf]
  exact (ranks A t b).round3 hf

/-- The first round's largest score is the best state's. -/
theorem peak0 : k2_pay3 (F := Ideal) y (ix2 r 0) = score A t b (best A t b 0) := by
  refine (peak_at (k2_pay2 (F := Ideal) y) r (best A t b 0) ?_).trans (pay2_at A t b y r h _)
  simp only [pay2_at A t b y r h]
  exact (ranks A t b).round0 hf

/-- The second round's is the second best state's. -/
theorem peak1 : k2_pay9 (F := Ideal) y (ix2 r 0) = score A t b (best A t b 1) := by
  refine (peak_at (k2_pay8 (F := Ideal) y) r (best A t b 1) ?_).trans ((work1 h hf _).trans (ranks A t b).found1)
  simp only [work1 h hf]
  exact (ranks A t b).round1 hf

/-- The third round's is the third best state's. -/
theorem peak2 : k2_pay12 (F := Ideal) (k2_pay8 (F := Ideal) y) (k2_pay10 (F := Ideal) y) (ix2 r 0) = score A t b (best A t b 2) := by
  refine (peak_at (k2_pay11 (F := Ideal) (k2_pay8 (F := Ideal) y) (k2_pay10 (F := Ideal) y)) r (best A t b 2) ?_).trans ((work2 h hf _).trans (ranks A t b).found2)
  simp only [work2 h hf]
  exact (ranks A t b).round2 hf

/-- The fourth round's is the fourth best state's. -/
theorem peak3 : k2_pay15 (F := Ideal) cols (k2_pay8 (F := Ideal) y) (k2_pay10 (F := Ideal) y) (ix2 r 0) = score A t b (best A t b 3) := by
  refine (peak_at (k2_pay14 (F := Ideal) cols (k2_pay8 (F := Ideal) y) (k2_pay10 (F := Ideal) y)) r (best A t b 3) ?_).trans ((work3 h hf _).trans (ranks A t b).found3)
  simp only [work3 h hf]
  exact (ranks A t b).round3 hf

/-- The weights written. -/
theorem weights_at (n : Fin 33) : k2_pay19 (F := Ideal) cols (k2_pay5 (F := Ideal) y) (k2_pay7 (F := Ideal) y) (k2_pay8 (F := Ideal) y) (k2_pay9 (F := Ideal) y) (k2_pay10 (F := Ideal) y)
    (Scalar.ofBits .f32 0x00000000#32) (ix2 r n) = weight A t b n := by
  pointwise [k2_pay19, k2_pay18, k2_pay5, k2_pay7, work1 h hf, work2 h hf, work3 h hf, mark0 h hf, mark1 h hf, mark2 h hf, mark3 h hf,
    peak0 h hf, peak1 h hf, peak2 h hf, peak3 h hf, pay2_at A t b y r h]
  rcases Fin.eq_zero_or_eq_succ n with rfl | ⟨m, rfl⟩
  · exact dif_pos (by decide)
  rw [dif_neg (by simp)]
  change Ideal.div (Scalar.select (if m = best A t b 0 then 1#1 else 0#1) (score A t b m) 0
    + Scalar.select (if m = best A t b 1 then 1#1 else 0#1) (strike (score A t b) (best A t b 0) m) 0
    + Scalar.select (if m = best A t b 2 then 1#1 else 0#1) (strike (strike (score A t b) (best A t b 0)) (best A t b 1) m) 0
    + Scalar.select (if m = best A t b 3 then 1#1 else 0#1)
        (strike (strike (strike (score A t b) (best A t b 0)) (best A t b 1)) (best A t b 2) m) 0) _
    = Ideal.div (∑ r, if m = best A t b r then score A t b m else 0) (∑ r, score A t b (best A t b r))
  rw [Fin.sum_univ_four, Fin.sum_univ_four, select_mark, select_mark, select_mark, select_mark,
    if_found _ _ _ (ranks A t b).found1, if_found _ _ _ (ranks A t b).found2, if_found _ _ _ (ranks A t b).found3]

/-- The marks written. -/
theorem marks_at (n : Fin 33) : k2_pay1 (F := Ideal) (k2_pay17 (F := Ideal) cols (k2_pay6 (F := Ideal) y) (k2_pay8 (F := Ideal) y) (k2_pay10 (F := Ideal) y)) (k2_pay18 (F := Ideal)) (ix2 r n)
    = mark A t b n := by
  pointwise [k2_pay1, k2_pay17, k2_pay18, k2_pay6, mark0 h hf, mark1 h hf, mark2 h hf, mark3 h hf]
  rcases Fin.eq_zero_or_eq_succ n with rfl | ⟨m, rfl⟩
  · exact dif_pos (by decide)
  rw [dif_neg (by simp), mark_number, mark_number, mark_number, mark_number]
  refine Eq.trans ?_ ((max_marks fun r => m = best A t b r).trans ?_)
  · rfl
  · congr

end row

end Cert.Route

end
-- ==== Proof.Attn.lean ====
/- The attention kernel's block, entry by entry. A block holds four batches; its rows are numbered by
   (batch in the block, step), and its columns by (batch in the block, earlier step, memory). -/
module

public import proofs.«01_k».proof.Proof.Gen.KernelIdeal.Skeleton
public import proofs.«01_k».proof.Proof.Spec
public import Idealize.ShloMosaic.Lib.Pointwise

@[expose] public section

set_option maxRecDepth 16384

noncomputable section

namespace Cert.Attn

open Idealize.ShloMosaic
open Cert.KernelIdeal Cert.KernelIdeal.Gen Cert.Spec

/-- Division rounded down, as the kernel writes it on words: the quotient rounded toward zero, less
    one where the signs differ and the remainder is not zero. -/
def quot (x d : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt d 0#32))
          (Scalar.extui (Scalar.cmpi CmpIPredicate.slt d 0#32))))
      (IntOp.cmpi CmpIPredicate.ne (IntOp.remsi ArithUnit.vector x d) 0#32))
    (IntOp.subi (IntOp.divsi ArithUnit.vector x d) 1#32)
    (IntOp.divsi ArithUnit.vector x d)

/-- The batch of a column. -/
theorem quot_col : ∀ c : Fin 2112, quot (BitVec.ofNat 32 c.val) 528#32 = BitVec.ofNat 32 (c.val / 528) := by
  decide +kernel

/-- A column's place within its batch. -/
theorem rest_col : ∀ c : Fin 2112,
    IntOp.subi (BitVec.ofNat 32 c.val) (IntOp.muli (BitVec.ofNat 32 (c.val / 528)) 528#32)
      = BitVec.ofNat 32 (c.val % 528) := by
  decide +kernel

/-- The earlier step a column belongs to. -/
theorem quot_rest : ∀ c : Fin 528, quot (BitVec.ofNat 32 c.val) 33#32 = BitVec.ofNat 32 (c.val / 33) := by
  decide +kernel

/-- The step of a row. -/
theorem rest_row : ∀ r : Fin 64,
    IntOp.subi (BitVec.ofNat 32 r.val) (IntOp.muli (BitVec.ofNat 32 (r.val / 16)) 16#32)
      = BitVec.ofNat 32 (r.val % 16) := by
  decide +kernel

/-- Equality of two batch numbers, as a word. -/
theorem eq_word : ∀ a b : Fin 4,
    IntOp.cmpi CmpIPredicate.eq (BitVec.ofNat 32 a.val) (BitVec.ofNat 32 b.val)
      = if a.val = b.val then 1#1 else 0#1 := by
  decide +kernel

/-- The order of two step numbers, as a word. -/
theorem le_word : ∀ a b : Fin 16,
    IntOp.cmpi CmpIPredicate.sge (BitVec.ofNat 32 a.val) (BitVec.ofNat 32 b.val)
      = if b.val ≤ a.val then 1#1 else 0#1 := by
  decide +kernel

/-- The batch of a row. -/
theorem pay11_at (r : Fin 64) (c : Fin 2112) : k3_pay11 (ix2 r c) = BitVec.ofNat 32 (r.val / 16) := by
  pointwise [k3_pay11]
  revert r; decide

/-- The mask of the attention: a row sees a column of its own batch and of a step not after its own. -/
theorem keep_at (r : Fin 64) (c : Fin 2112) :
    k3_pay15 (iota .tc S64x2112 32 [0] iota_S64x2112_d0_w32) (iota .tc S64x2112 32 [1] iota_S64x2112_d1_w32)
        k3_pay11 528#32 k3_pay12 k3_pay13 k3_pay14 (ix2 r c)
      = if r.val / 16 = c.val / 528 ∧ c.val % 528 / 33 ≤ r.val % 16 then 1#1 else 0#1 := by
  pointwise [k3_pay15, pay11_at, k3_pay12, k3_pay13, k3_pay14]
  change IntOp.andi (IntOp.cmpi .eq (BitVec.ofNat 32 (r.val / 16)) (quot (BitVec.ofNat 32 c.val) 528#32))
    (IntOp.cmpi .sge (IntOp.subi (BitVec.ofNat 32 r.val) (IntOp.muli (BitVec.ofNat 32 (r.val / 16)) 16#32))
      (quot (IntOp.subi (BitVec.ofNat 32 c.val)
        (IntOp.muli (quot (BitVec.ofNat 32 c.val) 528#32) 528#32)) 33#32)) = _
  have hr := r.isLt
  have hc := c.isLt
  rw [quot_col, rest_col, rest_row, quot_rest ⟨c.val % 528, by omega⟩,
    eq_word ⟨r.val / 16, by omega⟩ ⟨c.val / 528, by omega⟩,
    le_word ⟨r.val % 16, by omega⟩ ⟨c.val % 528 / 33, by omega⟩]
  by_cases h1 : r.val / 16 = c.val / 528 <;> by_cases h2 : c.val % 528 / 33 ≤ r.val % 16 <;>
    simp [h1, h2, IntOp.andi]

/-- The remainder by 33, as the kernel writes it on words: the remainder of the rounded quotient, plus
    33 where the signs differ and it is not zero. -/
def residue (x : BitVec 32) : BitVec 32 :=
  Scalar.select
    (IntOp.andi
      (IntOp.xori
        (IntOp.cmpi CmpIPredicate.slt
          (IntOp.remsi ArithUnit.vector x
            (Scalar.select (Scalar.cmpi CmpIPredicate.eq 33#32 0#32) 1#32 33#32)) 0#32)
        (Scalar.cmpi CmpIPredicate.slt
          (Scalar.select (Scalar.cmpi CmpIPredicate.eq 33#32 0#32) 1#32 33#32) 0#32))
      (IntOp.cmpi CmpIPredicate.ne
        (IntOp.remsi ArithUnit.vector x
          (Scalar.select (Scalar.cmpi CmpIPredicate.eq 33#32 0#32) 1#32 33#32)) 0#32))
    (IntOp.addi
      (IntOp.remsi ArithUnit.vector x
        (Scalar.select (Scalar.cmpi CmpIPredicate.eq 33#32 0#32) 1#32 33#32))
      (Scalar.select (Scalar.cmpi CmpIPredicate.eq 33#32 0#32) 1#32 33#32))
    (IntOp.remsi ArithUnit.vector x
      (Scalar.select (Scalar.cmpi CmpIPredicate.eq 33#32 0#32) 1#32 33#32))

/-- The memory a column belongs to. -/
theorem residue_col : ∀ c : Fin 528, residue (BitVec.ofNat 32 c.val) = BitVec.ofNat 32 (c.val % 33) := by
  decide +kernel

/-- A pair of memory numbers as the word one or zero. -/
theorem same_word : ∀ a b : Fin 33,
    BitVec.setWidth 32 (IntOp.cmpi CmpIPredicate.eq (BitVec.ofNat 32 a.val) (BitVec.ofNat 32 b.val))
      = if a = b then 1#32 else 0#32 := by
  decide +kernel

/-- A row times the table of ones at (memory, column) is the row's entry at the column's memory. -/
theorem pick (w : Fin 33 → EReal) (c : Nat) (hc : c < 528) :
    ∑ x : Fin 33, w x * FloatOps.sitofp (F := Ideal) FTy.f32
        (BitVec.setWidth 32 (IntOp.cmpi CmpIPredicate.eq (residue (BitVec.ofNat 32 c)) (BitVec.ofNat 32 x.val)))
      = w ⟨c % 33, Nat.mod_lt _ (by decide)⟩ := by
  rw [Finset.sum_eq_single ⟨c % 33, Nat.mod_lt _ (by decide)⟩]
  · rw [residue_col ⟨c, hc⟩, same_word ⟨c % 33, Nat.mod_lt _ (by decide)⟩, if_pos rfl]
    show w _ * (((1#32 : BitVec 32).toInt : ℝ) : EReal) = _
    simp
  · intro x _ hx
    rw [residue_col ⟨c, hc⟩, same_word ⟨c % 33, Nat.mod_lt _ (by decide)⟩, if_neg (Ne.symm hx)]
    show w _ * (((0#32 : BitVec 32).toInt : ℝ) : EReal) = _
    simp
  · exact fun h => absurd (Finset.mem_univ _) h

/-- The weights spread over the columns: a row's weight at the column's memory. -/
theorem spread_at (w : FVec Ideal S64x33 .f32) (r : Fin 64) (c : Fin 2112) :
    k3_pay10 w (iota .tc S33x528 32 [0] iota_S33x528_d0_w32) k3_pay7 k3_pay8 k3_pay9 (ix2 r c)
      = w (ix2 r ⟨c.val % 528 % 33, Nat.mod_lt _ (by decide)⟩) := by
  have hc := c.isLt
  have key : ∀ k : Nat, k < 528 → k = c.val % 528 →
      ∑ x : Fin 33, w (ix2 r x) * FloatOps.sitofp (F := Ideal) FTy.f32
        (BitVec.setWidth 32 (IntOp.cmpi CmpIPredicate.eq (residue (BitVec.ofNat 32 k)) (BitVec.ofNat 32 x.val)))
        = w (ix2 r ⟨c.val % 528 % 33, Nat.mod_lt _ (by decide)⟩) := by
    intro k hk hk'
    subst hk'
    exact pick (fun x => w (ix2 r x)) _ hk
  pointwise [k3_pay10, k3_pay7, k3_pay8, k3_pay9]
  split_ifs with h1 h2 h3
  · exact key _ h1 (by omega)
  · exact key _ h2 (by omega)
  · exact key _ h3 (by omega)
  · exact key _ (by omega) (by omega)

/-- The column of memory n at earlier step s, for batch g of the block. -/
def col (g : Fin 4) (s : Fin 16) (n : Fin 33) : Fin 2112 := ⟨g.val * 528 + (s.val * 33 + n.val), by omega⟩

/-- The place of memory n at step s within one batch. -/
def spot (s : Fin 16) (n : Fin 33) : Fin 528 := ⟨s.val * 33 + n.val, by omega⟩

/-- The bits of the number two. -/
theorem ofBits_two : Ideal.ofBits .f32 0x40000000#32 = 2 := by
  simp only [Ideal.ofBits, Ideal.ieee]
  simp
  rw [← EReal.coe_mul]
  norm_num
  rfl

/-- The routing weights, rows numbered by (batch in the block, step). -/
theorem pay2_at (x0 : FVec Ideal S1x4x16x33 .f32) (g : Fin 4) (t : Fin 16) (n : Fin 33) :
    k3_pay2 (F := Ideal) x0 (ix2 ⟨g.val * 16 + t.val, by omega⟩ n) = x0 (ix4 0 g t n) := by
  pointwise [k3_pay2]

/-- A sum over the columns in which only the columns of one batch, at steps not after t, count. -/
theorem sum_seen (f : Fin 2112 → EReal) (g : Fin 4) (t : Fin 16) :
    (∑ c : Fin 2112, if (g.val * 16 + t.val) / 16 = c.val / 528 ∧ c.val % 528 / 33 ≤ (g.val * 16 + t.val) % 16
        then f c else 0)
      = ∑ s : Fin 16, ∑ n : Fin 33, if s ≤ t then f (col g s n) else 0 := by
  have hg := g.isLt
  have ht := t.isLt
  rw [Fin.sum_univ_tiles 4 528 rfl, Finset.sum_eq_single g]
  · rw [Fin.sum_univ_tiles 16 33 rfl]
    refine Finset.sum_congr rfl fun s _ => Finset.sum_congr rfl fun n _ => ?_
    have hs := s.isLt
    have hn := n.isLt
    refine if_congr ?_ rfl rfl
    rw [Fin.le_def]
    dsimp only
    constructor
    · intro h; omega
    · intro h; constructor <;> omega
  · intro g' _ hne
    refine Finset.sum_eq_zero fun k _ => if_neg fun h => hne (Fin.ext ?_)
    have := k.isLt
    have := h.1
    dsimp only at this
    omega
  · exact fun h => absurd (Finset.mem_univ _) h

/-- One block of the attention: over the steps not after t of the row's own batch and over the
    memories, (q · k) · weight · mark times the value, plus twice the read of the initial memory. -/
theorem block_at (x0 : FVec Ideal S1x4x16x33 .f32) (x1 : FVec Ideal S1x1x2112 .f32)
    (x2 : FVec Ideal S1x4x16x64 .f32) (x3 x4 : FVec Ideal S1x4x528x64 .f32) (x5 : FVec Ideal S64x64 .f32)
    (g : Fin 4) (t : Fin 16) (e : Fin 64) :
    k3_pay1 (k3_pay4 x2) (k3_pay6 x4) x5
        (k3_pay15 (iota .tc S64x2112 32 [0] iota_S64x2112_d0_w32)
          (iota .tc S64x2112 32 [1] iota_S64x2112_d1_w32) k3_pay11 528#32 k3_pay12 k3_pay13 k3_pay14)
        (k3_pay16 (k3_pay3 x1) (k3_pay4 x2) (k3_pay5 x3)
          (k3_pay10 (k3_pay2 x0) (iota .tc S33x528 32 [0] iota_S33x528_d0_w32) k3_pay7 k3_pay8 k3_pay9))
        (k3_pay17 (F := Ideal)) (ix4 0 g t e)
      = (∑ s : Fin 16, ∑ n : Fin 33, if s ≤ t then
          ((∑ d : Fin 64, x2 (ix4 0 g t d) * x3 (ix4 0 g (spot s n) d)) * x0 (ix4 0 g t n)
            * x1 (ix3 0 0 (col g s n))) * x4 (ix4 0 g (spot s n) e) else 0)
        + 2 * ∑ d : Fin 64, x2 (ix4 0 g t d) * x5 (ix2 d e) := by
  pointwise [k3_pay1, k3_pay4, k3_pay6, k3_pay16, k3_pay3, k3_pay5, k3_pay17]
  rw [ofBits_two]
  congr 1
  refine Eq.trans (Finset.sum_congr rfl fun c _ => ?_) (sum_seen (fun c =>
    ((∑ d : Fin 64, x2 (ix4 0 g t d) * x3 (ix4 0 ⟨c.val / 528, by have := c.isLt; omega⟩ ⟨c.val % 528, Nat.mod_lt _ (by decide)⟩ d))
      * x0 (ix4 0 g t ⟨c.val % 528 % 33, Nat.mod_lt _ (by decide)⟩)
            * x1 (ix3 0 0 c)) * x4 (ix4 0 ⟨c.val / 528, by have := c.isLt; omega⟩ ⟨c.val % 528, Nat.mod_lt _ (by decide)⟩ e)) g t) |>.trans ?_
  · rw [keep_at, spread_at, pay2_at]
    split_ifs with h
    · rfl
    · exact if_neg (by decide)
  · refine Finset.sum_congr rfl fun s _ => Finset.sum_congr rfl fun n _ => ?_
    have hs := s.isLt
    have hn := n.isLt
    have hg := g.isLt
    have e1 : (⟨(col g s n).val / 528, by have := (col g s n).isLt; omega⟩ : Fin 4) = g := by
      apply Fin.ext; simp only [col]; omega
    have e2 : (⟨(col g s n).val % 528, Nat.mod_lt _ (by decide)⟩ : Fin 528) = spot s n := by
      apply Fin.ext; simp only [col, spot]; omega
    have e3 : (⟨(col g s n).val % 528 % 33, Nat.mod_lt _ (by decide)⟩ : Fin 33) = n := by
      apply Fin.ext; simp only [col]; omega
    rw [e1, e2, e3]

/-- `block_at` at any entry of the block. -/
theorem block_read (x0 : FVec Ideal S1x4x16x33 .f32) (x1 : FVec Ideal S1x1x2112 .f32)
    (x2 : FVec Ideal S1x4x16x64 .f32) (x3 x4 : FVec Ideal S1x4x528x64 .f32) (x5 : FVec Ideal S64x64 .f32)
    (y : S1x4x16x64.Idx) :
    k3_pay1 (k3_pay4 x2) (k3_pay6 x4) x5
        (k3_pay15 (iota .tc S64x2112 32 [0] iota_S64x2112_d0_w32)
          (iota .tc S64x2112 32 [1] iota_S64x2112_d1_w32) k3_pay11 528#32 k3_pay12 k3_pay13 k3_pay14)
        (k3_pay16 (k3_pay3 x1) (k3_pay4 x2) (k3_pay5 x3)
          (k3_pay10 (k3_pay2 x0) (iota .tc S33x528 32 [0] iota_S33x528_d0_w32) k3_pay7 k3_pay8 k3_pay9))
        (k3_pay17 (F := Ideal)) y
      = (∑ s : Fin 16, ∑ n : Fin 33, if s.val ≤ (y 2).val then
          ((∑ d : Fin 64, x2 (ix4 0 (y 1) (y 2) d) * x3 (ix4 0 (y 1) (spot s n) d)) * x0 (ix4 0 (y 1) (y 2) n)
            * x1 (ix3 0 0 (col (y 1) s n))) * x4 (ix4 0 (y 1) (spot s n) (y 3)) else 0)
        + 2 * ∑ d : Fin 64, x2 (ix4 0 (y 1) (y 2) d) * x5 (ix2 d (y 3)) := by
  have hy : y = ix4 0 (y 1) (y 2) (y 3) := by
    refine (ValueIdx.eq_ix4 y).trans ?_
    exact congrArg (fun a : Fin 1 => (ix4 a (y 1) (y 2) (y 3) : S1x4x16x64.Idx))
      (@Subsingleton.elim (Fin 1) _ (y 0) 0)
  rw [hy]
  exact block_at x0 x1 x2 x3 x4 x5 (y 1) (y 2) (y 3)

end Cert.Attn
end
-- ==== Proof.Arrays.lean ====
/- What each call leaves in its arrays, entry by entry, over any contents the buffers hold when it is entered. -/
module

public import proofs.«01_k».proof.Proof.RunIdeal
public import proofs.«01_k».proof.Proof.Proj
public import proofs.«01_k».proof.Proof.Route
public import proofs.«01_k».proof.Proof.Attn
public import Idealize.ShloMosaic.Lib.Pipeline.ValueKit

@[expose] public section

set_option maxRecDepth 16384

noncomputable section

namespace Cert.Arrays

open Idealize.ShloMosaic Idealize.ShloMosaic.TcCoe
open Idealize.ShloMosaic.Pipeline (Dat Cfg Window)
open Cert.KernelIdeal Cert.KernelIdeal.Gen Cert.KernelIdeal.Whole

variable (V : (c : Dev nD) → (b : Ref sig .tc) → Buf (Elt Ideal) ((c : Thread nD τ).loc b)) (c : Dev nD)

/-- The block each window of the first call shows at a grid point. -/
theorem idx0 : ∀ t : Fin cfg0.N, win0_0.index t = ![0, t.val] ∧ win0_1.index t = ![0, t.val] ∧ win0_2.index t = ![0, 0]
    ∧ win0_3.index t = ![0, t.val] ∧ win0_4.index t = ![0, 0] ∧ win0_5.index t = ![0, 0] ∧ win0_6.index t = ![0, 0] :=
  (by decide +kernel : ∀ t : Fin grid0.N, _)

/-- A projection written out: a bias and a product with a weight row. -/
def proj (x : FVec Ideal S512x1024 .f32) (w : FVec Ideal S2112x1024 .f32) (b : FVec Ideal S1x2112 .f32) :
    FVec Ideal S512x2112 .f32 :=
  fun i => b (ix2 0 (i 1)) + ∑ k : Fin 1024, x (ix2 (i 0) k) * w (ix2 (i 1) k)

/-- The first point of the first call is the only one at a multiple of four. -/
theorem first_point (t : Fin cfg0.N) (h : t.val % 4 = 0) : ¬1 ≤ t.val := by
  have := lt_of_lt_of_eq t.isLt N_0
  omega

/-- Every other point of the first call comes after the first. -/
theorem later_point (t : Fin cfg0.N) (h : ¬t.val % 4 = 0) : 1 ≤ t.val := by omega

/-- One chunk's part of a projection, at a grid point. -/
def part (x : Fin cfg0.N → FVec Ideal S512x256 .f32) (w : Fin cfg0.N → FVec Ideal S2112x256 .f32)
    (t : Fin cfg0.N) (j : S512x2112.Idx) : EReal :=
  ∑ k : Fin 256, x t (ix2 (j 0) k) * w t (ix2 (j 1) k)

/-- The four chunks' sums together are the sum over the whole axis. -/
theorem chunks (f : Fin cfg0.N → Fin 256 → EReal) (g : Fin 1024 → EReal)
    (h : ∀ (t : Fin cfg0.N) (k : Fin 256) (hl : t.val * 256 + k.val < 1024), f t k = g ⟨t.val * 256 + k.val, hl⟩) :
    ∑ t, ∑ k, f t k = ∑ i, g i := by
  rw [Fin.sum_univ_tiles (N := 1024) cfg0.N 256 (by rw [show cfg0.N = 4 from N_0])]
  exact Finset.sum_congr rfl fun t _ => Finset.sum_congr rfl fun k _ => h t k _

/-- The keys the first call leaves. -/
theorem keys : (dat0 V c).arrAt 5 cfg0.N = proj (V c main_call0_v1) (V c main_arg2) (V c main_call0_v2) := by
  refine (dat0 V c).arrAt_eq_of_after_last 5 t0_3 (by decide +kernel) _ fun j => ?_
  blk_simp
  rw [after0_5, Pipeline.eq_sum_fin_of_reset_step_apply_last (fun n h => (outsAt0 V c n h).1) 4
    (fun j => (V c main_call0_v2 : FVec Ideal S1x2112 .f32) (ix2 0 (j 1))) (part (iblk0 V c 0) (iblk0 V c 1))
    (fun t h j => by
      rw [outsAt0_A V c t h (first_point t h)]; frame_out; rw [Proj.pay4_at]
      refine congrArg (· + _) ?_
      blk_point [iblk0, idx0 t])
    (fun t h j => by
      rw [outsAt0_B V c t h (later_point t h)]; frame_out; rw [Proj.pay6_at]
      rfl)
    (le_of_eq N_0) t0_3 rfl j]
  refine congrArg (fun x : EReal => _ + x) (chunks _ _ fun t k hl => ?_)
  blk_point [iblk0, idx0 t]

/-- The values the first call leaves. -/
theorem vals : (dat0 V c).arrAt 6 cfg0.N = proj (V c main_call0_v1) (V c main_arg4) (V c main_call0_v3) := by
  refine (dat0 V c).arrAt_eq_of_after_last 6 t0_3 (by decide +kernel) _ fun j => ?_
  blk_simp
  rw [after0_6, Pipeline.eq_sum_fin_of_reset_step_apply_last (fun n h => (outsAt0 V c n h).2) 4
    (fun j => (V c main_call0_v3 : FVec Ideal S1x2112 .f32) (ix2 0 (j 1))) (part (iblk0 V c 0) (iblk0 V c 3))
    (fun t h j => by
      rw [outsAt0_A V c t h (first_point t h)]; frame_out; rw [Proj.pay5_at]
      refine congrArg (· + _) ?_
      blk_point [iblk0, idx0 t])
    (fun t h j => by
      rw [outsAt0_B V c t h (later_point t h)]; frame_out; rw [Proj.pay7_at]
      rfl)
    (le_of_eq N_0) t0_3 rfl j]
  refine congrArg (fun x : EReal => _ + x) (chunks _ _ fun t k hl => ?_)
  blk_point [iblk0, idx0 t]

/-- The routing logits written out. -/
def gates (x : FVec Ideal S512x1024 .f32) (w : FVec Ideal S32x1024 .f32) (b : FVec Ideal S1x32 .f32) :
    FVec Ideal S512x32 .f32 :=
  fun i => (∑ k : Fin 1024, x (ix2 (i 0) k) * w (ix2 (i 1) k)) + b (ix2 0 (i 1))

/-- The queries written out. -/
def queries (x : FVec Ideal S512x1024 .f32) (w : FVec Ideal S64x1024 .f32) (b : FVec Ideal S1x64 .f32) :
    FVec Ideal S512x64 .f32 :=
  fun i => (∑ k : Fin 1024, x (ix2 (i 0) k) * w (ix2 (i 1) k)) + b (ix2 0 (i 1))

/-- The block each window of the second call shows: the whole array. -/
theorem idx1 : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0] ∧ win1_6.index t = ![0, 0] :=
  (by decide +kernel : ∀ t : Fin grid1.N, _)

/-- The block each window of the third call shows: the whole array. -/
theorem idx2 : ∀ t : Fin cfg2.N, win2_0.index t = ![0, 0] ∧ win2_1.index t = ![0, 0] ∧ win2_2.index t = ![0, 0] :=
  (by decide +kernel : ∀ t : Fin grid2.N, _)

/-- The routing logits the second call leaves. -/
theorem gates_left : (dat1 V c).arrAt 5 cfg1.N = gates (V c main_call0_v1) (V c main_arg6) (V c main_call0_v5) := by
  refine (dat1 V c).arrAt_eq_of_after_last 5 t1_0 (by decide +kernel) _ fun j => ?_
  blk_simp
  rw [after1_5]
  frame_out
  rw [Proj.gate_at]
  unfold gates
  blk_point [iblk1, idx1 t1_0]

/-- The queries the second call leaves. -/
theorem queries_left : (dat1 V c).arrAt 6 cfg1.N = queries (V c main_call0_v1) (V c main_arg8) (V c main_call0_v6) := by
  refine (dat1 V c).arrAt_eq_of_after_last 6 t1_0 (by decide +kernel) _ fun j => ?_
  blk_simp
  rw [after1_6]
  frame_out
  rw [Proj.query_at]
  unfold queries
  blk_point [iblk1, idx1 t1_0]

/-- The third call's operand, whole. -/
theorem logits_block : iblk2 V c 0 t2_0 = (V c main_call0_v7_0 : FVec Ideal S512x32 .f32) := by
  funext y
  blk_point [iblk2, idx2 t2_0]

/-- The zero start of a read of two axes. -/
theorem start2 : (![0, 0] : Fin 2 → Nat) = fun _ => 0 := by
  funext a; fin_cases a <;> rfl

/-- The zero start of a read of four axes. -/
theorem start4 : (![0, 0, 0, 0] : Fin 4 → Nat) = fun _ => 0 := by
  funext a; fin_cases a <;> rfl

/-- The third call's weights depend on its operand as a whole. -/
theorem weights_whole (y : FVec Ideal S512x32 .f32) (j : S512x33.Idx) :
    k2_pay19 (F := Ideal) (k2_pay20 (F := Ideal) y) (k2_pay5 y) (k2_pay7 y) (k2_pay21 y) (k2_pay9 y)
        (k2_pay22 (F := Ideal) y) (Scalar.ofBits .f32 0x00000000#32) j
      = k2_pay19 (F := Ideal) Route.cols (k2_pay5 y) (k2_pay7 y) (k2_pay8 y) (k2_pay9 y) (k2_pay10 (F := Ideal) y)
        (Scalar.ofBits .f32 0x00000000#32) j := by
  unfold k2_pay20 k2_pay21 k2_pay22 Route.cols
  rw [View.ld_unit_zero start2]

/-- The third call's marks depend on its operand as a whole. -/
theorem marks_whole (y : FVec Ideal S512x32 .f32) (j : S512x33.Idx) :
    k2_pay1 (k2_pay17 (k2_pay20 (F := Ideal) y) (k2_pay6 y) (k2_pay21 y) (k2_pay22 (F := Ideal) y))
        (k2_pay18 (F := Ideal)) j
      = k2_pay1 (k2_pay17 Route.cols (k2_pay6 y) (k2_pay8 y) (k2_pay10 (F := Ideal) y)) (k2_pay18 (F := Ideal)) j := by
  unfold k2_pay20 k2_pay21 k2_pay22 Route.cols
  rw [View.ld_unit_zero start2]

/-- The fourth call's queries are read whole. -/
theorem queries_whole (x0 : FVec Ideal S1x4x16x33 .f32) (x1 : FVec Ideal S1x1x2112 .f32)
    (x2 : FVec Ideal S1x4x16x64 .f32) (x3 x4 : FVec Ideal S1x4x528x64 .f32) (x5 : FVec Ideal S64x64 .f32) :
    k3_pay18 (F := Ideal) x0 x1 x2 x3 x4 x5 = k3_pay4 x2 := by
  unfold k3_pay18
  rw [View.ld_unit_zero start4]

/-- The routing weights the third call leaves, over the routing logits. -/
theorem weights_left : (dat2 V c).arrAt 1 cfg2.N
    = fun i => k2_pay19 (F := Ideal) Route.cols (k2_pay5 (V c main_call0_v7_0)) (k2_pay7 (V c main_call0_v7_0))
        (k2_pay8 (V c main_call0_v7_0)) (k2_pay9 (V c main_call0_v7_0)) (k2_pay10 (V c main_call0_v7_0))
        (Scalar.ofBits .f32 0x00000000#32) i := by
  refine (dat2 V c).arrAt_eq_of_after_last 1 t2_0 (by decide +kernel) _ fun j => ?_
  blk_simp
  rw [after2_1]
  frame_out
  have hb := logits_block V c
  generalize iblk2 V c 0 t2_0 = y at hb ⊢
  subst hb
  exact weights_whole (V c main_call0_v7_0) j

/-- The marks the third call leaves, over the routing logits. -/
theorem marks_left : (dat2 V c).arrAt 2 cfg2.N
    = fun i => k2_pay1 (k2_pay17 Route.cols (k2_pay6 (V c main_call0_v7_0)) (k2_pay8 (V c main_call0_v7_0))
        (k2_pay10 (V c main_call0_v7_0))) (k2_pay18 (F := Ideal)) i := by
  refine (dat2 V c).arrAt_eq_of_after_last 2 t2_0 (by decide +kernel) _ fun j => ?_
  blk_simp
  rw [after2_2]
  frame_out
  have hb := logits_block V c
  generalize iblk2 V c 0 t2_0 = y at hb ⊢
  subst hb
  exact marks_whole (V c main_call0_v7_0) j

/-- The block each window of the fourth call shows at a grid point. -/
theorem idx3 : ∀ t : Fin cfg3.N, win3_0.index t = ![t.val, 0, 0, 0] ∧ win3_1.index t = ![t.val, 0, 0] ∧ win3_2.index t = ![t.val, 0, 0, 0]
    ∧ win3_3.index t = ![t.val, 0, 0, 0] ∧ win3_4.index t = ![t.val, 0, 0, 0] ∧ win3_5.index t = ![0, 0] ∧ win3_6.index t = ![t.val, 0, 0, 0] :=
  (by decide +kernel : ∀ t : Fin grid3.N, _)

/-- The attention written out, over its six operands. -/
def attn (w : FVec Ideal S8x4x16x33 .f32) (k : FVec Ideal S8x1x2112 .f32) (q : FVec Ideal S8x4x16x64 .f32)
    (kk vv : FVec Ideal S8x4x528x64 .f32) (m0 : FVec Ideal S64x64 .f32) : FVec Ideal S8x4x16x64 .f32 :=
  fun i => (∑ s : Fin 16, ∑ n : Fin 33, if s.val ≤ (i 2).val then
          ((∑ d : Fin 64, q (ix4 (i 0) (i 1) (i 2) d) * kk (ix4 (i 0) (i 1) (Attn.spot s n) d)) * w (ix4 (i 0) (i 1) (i 2) n)
            * k (ix3 (i 0) 0 (Attn.col (i 1) s n))) * vv (ix4 (i 0) (i 1) (Attn.spot s n) (i 3)) else 0)
        + 2 * ∑ d : Fin 64, q (ix4 (i 0) (i 1) (i 2) d) * m0 (ix2 d (i 3))

/-- What the fourth call leaves. -/
theorem attn_left : (dat3 V c).arrAt 6 cfg3.N = attn (V c main_call0_v9) (V c main_call0_v10) (V c main_call0_v11)
   (V c main_call0_v12) (V c main_call0_v13) (V c main_arg1) := by
  refine (dat3 V c).arrAt_eq_of_covers 6 _ (by decide +kernel) fun t _ y => ?_
  blk_simp
  rw [after3_6]
  frame_out
  rw [queries_whole (iblk3 V c 0 t) (iblk3 V c 1 t) (iblk3 V c 2 t) (iblk3 V c 3 t) (iblk3 V c 4 t)
    (iblk3 V c 5 t)]
  rw [Attn.block_read (iblk3 V c 0 t) (iblk3 V c 1 t) (iblk3 V c 2 t) (iblk3 V c 3 t) (iblk3 V c 4 t)
    (iblk3 V c 5 t) y]
  unfold attn
  refine congrArg₂ (fun a b : EReal => a + b) ?_ ?_
  · refine Finset.sum_congr rfl fun s _ => Finset.sum_congr rfl fun n _ => ?_
    refine if_congr ?_ ?_ rfl
    · blk_simp [idx3 t]
    · blk_point [iblk3, idx3 t]
      simp only [Attn.col]
      blk_simp [idx3 t]
  · blk_point [iblk3, idx3 t]

end Cert.Arrays
end
-- ==== Proof.Chain.lean ====
/- The kernel's result, entry by entry, as a function of the arguments: the four calls and the layout changes between them. -/
module

public import proofs.«01_k».proof.Proof.Arrays

@[expose] public section

set_option maxRecDepth 16384

noncomputable section

namespace Cert.Chain

open Idealize.ShloMosaic Idealize.ShloMosaic.TcCoe
open Cert.KernelIdeal Cert.KernelIdeal.Gen Cert.KernelIdeal.Whole Cert.Spec

variable (m : (ℓ : Loc nD τ sig) → Buf (Elt Ideal) ℓ) (ρ : Dev nD → PrngReg) (c : Dev nD)

/-- The arguments in a memory, read at their indices. -/
def args : Args where
  X t b i := m ((c : Thread nD τ).loc main_arg0) (ix3 t b i)
  M0 d e := m ((c : Thread nD τ).loc main_arg1) (ix2 d e)
  Wk j i := m ((c : Thread nD τ).loc main_arg2) (ix2 j i)
  bk j := m ((c : Thread nD τ).loc main_arg3) (ix1 j)
  Wv j i := m ((c : Thread nD τ).loc main_arg4) (ix2 j i)
  bv j := m ((c : Thread nD τ).loc main_arg5) (ix1 j)
  Wg j i := m ((c : Thread nD τ).loc main_arg6) (ix2 j i)
  bg j := m ((c : Thread nD τ).loc main_arg7) (ix1 j)
  Wq j i := m ((c : Thread nD τ).loc main_arg8) (ix2 j i)
  bq j := m ((c : Thread nD τ).loc main_arg9) (ix1 j)

/-- The row of batch b at step t. -/
def row (b : Fin 32) (t : Fin 16) : Fin 512 := ⟨b.val * 16 + t.val, by omega⟩

/-- The block of four batches that batch b is in. -/
def blockOf (b : Fin 32) : Fin 8 := ⟨b.val / 4, by omega⟩

/-- Batch b's place in its block. -/
def placeOf (b : Fin 32) : Fin 4 := ⟨b.val % 4, by omega⟩

/-! ## The layout changes between the calls -/

/-- Keys and values: from rows (batch, step) and lanes (memory, coordinate) to (block, place, spot, coordinate). -/
theorem cast_kv (x : FVec Ideal S512x2112 .f32) (b : Fin 32) (s : Fin 16) (n : Fin 33) (d : Fin 64) :
    shapeCast S8x4x528x64 x shapeCasts_S512x2112_S8x4x528x64 (ix4 (blockOf b) (placeOf b) (Attn.spot s n) d)
      = x (ix2 (row b s) (lane n d)) := by
  have hb := b.isLt
  have hs := s.isLt
  have hn := n.isLt
  have hd := d.isLt
  pointwise
  refine congrArg x (congrArg₂ (fun a b => (ix2 a b : S512x2112.Idx)) (Fin.ext ?_) (Fin.ext ?_)) <;>
    simp only [blockOf, placeOf, Attn.spot, row, lane] <;> omega

/-- Queries: from rows (batch, step) to (block, place, step). -/
theorem cast_q (x : FVec Ideal S512x64 .f32) (b : Fin 32) (t : Fin 16) (d : Fin 64) :
    shapeCast S8x4x16x64 x shapeCasts_S512x64_S8x4x16x64 (ix4 (blockOf b) (placeOf b) t d) = x (ix2 (row b t) d) := by
  have hb := b.isLt
  have ht := t.isLt
  have hd := d.isLt
  pointwise
  refine congrArg x (congrArg₂ (fun a b => (ix2 a b : S512x64.Idx)) (Fin.ext ?_) (Fin.ext ?_)) <;>
    simp only [blockOf, placeOf, row] <;> omega

/-- Weights: from rows (batch, step) to (block, place, step). -/
theorem cast_w (x : FVec Ideal S512x33 .f32) (b : Fin 32) (t : Fin 16) (n : Fin 33) :
    shapeCast S8x4x16x33 x shapeCasts_S512x33_S8x4x16x33 (ix4 (blockOf b) (placeOf b) t n) = x (ix2 (row b t) n) := by
  have hb := b.isLt
  have ht := t.isLt
  have hn := n.isLt
  pointwise
  refine congrArg x (congrArg₂ (fun a b => (ix2 a b : S512x33.Idx)) (Fin.ext ?_) (Fin.ext ?_)) <;>
    simp only [blockOf, placeOf, row] <;> omega

/-- Marks: from rows (batch, step) to one line of columns for each block. -/
theorem cast_m (x : FVec Ideal S512x33 .f32) (b : Fin 32) (s : Fin 16) (n : Fin 33) :
    shapeCast S8x1x2112 x shapeCasts_S512x33_S8x1x2112 (ix3 (blockOf b) 0 (Attn.col (placeOf b) s n))
      = x (ix2 (row b s) n) := by
  have hb := b.isLt
  have hs := s.isLt
  have hn := n.isLt
  pointwise
  refine congrArg x (congrArg₂ (fun a b => (ix2 a b : S512x33.Idx)) (Fin.ext ?_) (Fin.ext ?_)) <;>
    simp only [blockOf, placeOf, Attn.col, row] <;> omega

/-- The result: from (block, place, step) to (step, batch). -/
theorem cast_o (x : FVec Ideal S8x4x16x64 .f32) (t : Fin 16) (b : Fin 32) (e : Fin 64) :
    transpose S16x32x64 [1, 0, 2] (shapeCast S32x16x64 x shapeCasts_S8x4x16x64_S32x16x64)
        transposes_S32x16x64_S16x32x64_1_0_2 (ix3 t b e)
      = x (ix4 (blockOf b) (placeOf b) t e) := by
  have hb := b.isLt
  have ht := t.isLt
  have he := e.isLt
  pointwise
  rfl

/-- A linear layer, read at one entry, once its input row and bias are known. -/
theorem proj_of {f : Fin 1024 → EReal} {β : EReal}
    (x : FVec Ideal S512x1024 .f32) (w : FVec Ideal S2112x1024 .f32) (b : FVec Ideal S1x2112 .f32)
    (r : Fin 512) (j : Fin 2112) (hx : ∀ k, x (ix2 r k) = f k) (hb : b (ix2 0 j) = β) :
    Arrays.proj x w b (ix2 r j) = (∑ k, f k * w (ix2 j k)) + β := by
  show b (ix2 0 j) + ∑ k : Fin 1024, x (ix2 r k) * w (ix2 j k) = _
  rw [hb, add_comm]
  simp only [hx]

/-- The routing layer, likewise. -/
theorem gates_of {f : Fin 1024 → EReal} {β : EReal}
    (x : FVec Ideal S512x1024 .f32) (w : FVec Ideal S32x1024 .f32) (b : FVec Ideal S1x32 .f32)
    (r : Fin 512) (j : Fin 32) (hx : ∀ k, x (ix2 r k) = f k) (hb : b (ix2 0 j) = β) :
    Arrays.gates x w b (ix2 r j) = (∑ k, f k * w (ix2 j k)) + β := by
  show (∑ k : Fin 1024, x (ix2 r k) * w (ix2 j k)) + b (ix2 0 j) = _
  rw [hb]
  simp only [hx]

/-- The query layer, likewise. -/
theorem queries_of {f : Fin 1024 → EReal} {β : EReal}
    (x : FVec Ideal S512x1024 .f32) (w : FVec Ideal S64x1024 .f32) (b : FVec Ideal S1x64 .f32)
    (r : Fin 512) (j : Fin 64) (hx : ∀ k, x (ix2 r k) = f k) (hb : b (ix2 0 j) = β) :
    Arrays.queries x w b (ix2 r j) = (∑ k, f k * w (ix2 j k)) + β := by
  show (∑ k : Fin 1024, x (ix2 r k) * w (ix2 j k)) + b (ix2 0 j) = _
  rw [hb]
  simp only [hx]

/-- The attention, read at one entry, once its arrays are known. -/
theorem attn_of (A : Args) (t : Fin 16) (b : Fin 32) (e : Fin 64)
    (w : FVec Ideal S8x4x16x33 .f32) (k : FVec Ideal S8x1x2112 .f32) (q : FVec Ideal S8x4x16x64 .f32)
    (kk vv : FVec Ideal S8x4x528x64 .f32) (m0 : FVec Ideal S64x64 .f32)
    (hw : ∀ n, w (ix4 (blockOf b) (placeOf b) t n) = weight A t b n)
    (hk : ∀ s n, k (ix3 (blockOf b) 0 (Attn.col (placeOf b) s n)) = mark A s b n)
    (hq : ∀ d, q (ix4 (blockOf b) (placeOf b) t d) = query A t b d)
    (hkk : ∀ s n d, kk (ix4 (blockOf b) (placeOf b) (Attn.spot s n) d) = key A s b n d)
    (hvv : ∀ s n d, vv (ix4 (blockOf b) (placeOf b) (Attn.spot s n) d) = val A s b n d)
    (hm : ∀ d, m0 (ix2 d e) = A.M0 d e) :
    Arrays.attn w k q kk vv m0 (ix4 (blockOf b) (placeOf b) t e) = fused A t b e := by
  show (∑ s : Fin 16, ∑ n : Fin 33, if s.val ≤ t.val then
      ((∑ d : Fin 64, q (ix4 (blockOf b) (placeOf b) t d) * kk (ix4 (blockOf b) (placeOf b) (Attn.spot s n) d))
        * w (ix4 (blockOf b) (placeOf b) t n)
        * k (ix3 (blockOf b) 0 (Attn.col (placeOf b) s n)))
        * vv (ix4 (blockOf b) (placeOf b) (Attn.spot s n) e) else 0)
      + 2 * ∑ d : Fin 64, q (ix4 (blockOf b) (placeOf b) t d) * m0 (ix2 d e) = _
  simp only [hw, hk, hq, hkk, hvv, hm]
  rfl

/-! ## What the calls read and leave -/

/-- The input's rows. -/
theorem x_read (b : Fin 32) (t : Fin 16) (i : Fin 1024) :
    (W1 m ρ c (Proc.devRef .tc main_call0_v1) : FVec Ideal S512x1024 .f32) (ix2 (row b t) i) = (args m c).X t b i := by
  have h : (W1 m ρ c (Proc.devRef .tc main_call0_v1) : FVec Ideal S512x1024 .f32)
      = shapeCast S512x1024 (transpose S32x16x1024 [1, 0, 2] (m ((c : Thread nD τ).loc main_arg0) : FVec Ideal S16x32x1024 .f32)
        transposes_S16x32x1024_S32x16x1024_1_0_2) shapeCasts_S32x16x1024_S512x1024 := by
    unfold W1; after_results; rfl
  rw [h]
  pointwise [row, args]

/-- The key bias as a row. -/
theorem bk_read (j : Fin 2112) :
    (W1 m ρ c (Proc.devRef .tc main_call0_v2) : FVec Ideal S1x2112 .f32) (ix2 0 j) = (args m c).bk j := by
  have h : (W1 m ρ c (Proc.devRef .tc main_call0_v2) : FVec Ideal S1x2112 .f32)
      = broadcastInDim S1x2112 ![1] bcast_S2112_S1x2112_1 (m ((c : Thread nD τ).loc main_arg3) : FVec Ideal S2112 .f32) := by
    unfold W1; after_results; rfl
  rw [h]
  pointwise [args]

/-- The value bias as a row. -/
theorem bv_read (j : Fin 2112) :
    (W1 m ρ c (Proc.devRef .tc main_call0_v3) : FVec Ideal S1x2112 .f32) (ix2 0 j) = (args m c).bv j := by
  have h : (W1 m ρ c (Proc.devRef .tc main_call0_v3) : FVec Ideal S1x2112 .f32)
      = broadcastInDim S1x2112 ![1] bcast_S2112_S1x2112_1 (m ((c : Thread nD τ).loc main_arg5) : FVec Ideal S2112 .f32) := by
    unfold W1; after_results; rfl
  rw [h]
  pointwise [args]

/-- The routing bias as a row. -/
theorem bg_read (j : Fin 32) :
    (W3 m ρ c (Proc.devRef .tc main_call0_v5) : FVec Ideal S1x32 .f32) (ix2 0 j) = (args m c).bg j := by
  have h : (W3 m ρ c (Proc.devRef .tc main_call0_v5) : FVec Ideal S1x32 .f32)
      = broadcastInDim S1x32 ![1] bcast_S32_S1x32_1 (W2 m ρ c (Proc.devRef .tc main_arg7) : FVec Ideal S32 .f32) := by
    unfold W3; after_results; rfl
  rw [h, W2_args m ρ c main_arg7 (by decide)]
  pointwise [args]

/-- The query bias as a row. -/
theorem bq_read (j : Fin 64) :
    (W3 m ρ c (Proc.devRef .tc main_call0_v6) : FVec Ideal S1x64 .f32) (ix2 0 j) = (args m c).bq j := by
  have h : (W3 m ρ c (Proc.devRef .tc main_call0_v6) : FVec Ideal S1x64 .f32)
      = broadcastInDim S1x64 ![1] bcast_S64_S1x64_1 (W2 m ρ c (Proc.devRef .tc main_arg9) : FVec Ideal S64 .f32) := by
    unfold W3; after_results; rfl
  rw [h, W2_args m ρ c main_arg9 (by decide)]
  pointwise [args]

/-- The keys the first call leaves. -/
theorem key_left (b : Fin 32) (s : Fin 16) (n : Fin 33) (d : Fin 64) :
    (W2 m ρ c (Proc.devRef .tc main_call0_v4_0) : FVec Ideal S512x2112 .f32) (ix2 (row b s) (lane n d))
      = key (args m c) s b n d := by
  have h : (W2 m ρ c (Proc.devRef .tc main_call0_v4_0) : FVec Ideal S512x2112 .f32)
      = Arrays.proj (W1 m ρ c (Proc.devRef .tc main_call0_v1) : FVec Ideal S512x1024 .f32)
        (W1 m ρ c (Proc.devRef .tc main_arg2) : FVec Ideal S2112x1024 .f32)
        (W1 m ρ c (Proc.devRef .tc main_call0_v2) : FVec Ideal S1x2112 .f32) :=
    (W2_arr m ρ c 5).trans (Arrays.keys (V1 m ρ) c)
  rw [h, proj_of _ _ _ _ _ (x_read m ρ c b s) (bk_read m ρ c (lane n d)), W1_args m ρ c main_arg2 (by decide)]
  rfl

/-- The values the first call leaves. -/
theorem val_left (b : Fin 32) (s : Fin 16) (n : Fin 33) (d : Fin 64) :
    (W2 m ρ c (Proc.devRef .tc main_call0_v4_1) : FVec Ideal S512x2112 .f32) (ix2 (row b s) (lane n d))
      = val (args m c) s b n d := by
  have h : (W2 m ρ c (Proc.devRef .tc main_call0_v4_1) : FVec Ideal S512x2112 .f32)
      = Arrays.proj (W1 m ρ c (Proc.devRef .tc main_call0_v1) : FVec Ideal S512x1024 .f32)
        (W1 m ρ c (Proc.devRef .tc main_arg4) : FVec Ideal S2112x1024 .f32)
        (W1 m ρ c (Proc.devRef .tc main_call0_v3) : FVec Ideal S1x2112 .f32) :=
    (W2_arr m ρ c 6).trans (Arrays.vals (V1 m ρ) c)
  rw [h, proj_of _ _ _ _ _ (x_read m ρ c b s) (bv_read m ρ c (lane n d)), W1_args m ρ c main_arg4 (by decide)]
  rfl

/-- The input's rows when the second call is entered. -/
theorem x_kept (b : Fin 32) (t : Fin 16) (i : Fin 1024) :
    (W3 m ρ c (Proc.devRef .tc main_call0_v1) : FVec Ideal S512x1024 .f32) (ix2 (row b t) i) = (args m c).X t b i := by
  have h : (W3 m ρ c (Proc.devRef .tc main_call0_v1) : FVec Ideal S512x1024 .f32) = W1 m ρ c (Proc.devRef .tc main_call0_v1) :=
    (W3_of m ρ c _ (by decide)).trans (W2_of m ρ c _ (by decide))
  rw [h, x_read]

/-- The routing logits the second call leaves. -/
theorem logit_left (b : Fin 32) (t : Fin 16) (j : Fin 32) :
    (W4 m ρ c (Proc.devRef .tc main_call0_v7_0) : FVec Ideal S512x32 .f32) (ix2 (row b t) j)
      = logit (args m c) t b j := by
  have h : (W4 m ρ c (Proc.devRef .tc main_call0_v7_0) : FVec Ideal S512x32 .f32)
      = Arrays.gates (W3 m ρ c (Proc.devRef .tc main_call0_v1) : FVec Ideal S512x1024 .f32)
        (W3 m ρ c (Proc.devRef .tc main_arg6) : FVec Ideal S32x1024 .f32)
        (W3 m ρ c (Proc.devRef .tc main_call0_v5) : FVec Ideal S1x32 .f32) :=
    (W4_arr m ρ c 5).trans (Arrays.gates_left (V3 m ρ) c)
  rw [h, gates_of _ _ _ _ _ (x_kept m ρ c b t) (bg_read m ρ c j), W3_args m ρ c main_arg6 (by decide)]
  rfl

/-- The queries the second call leaves. -/
theorem query_left (b : Fin 32) (t : Fin 16) (d : Fin 64) :
    (W4 m ρ c (Proc.devRef .tc main_call0_v7_1) : FVec Ideal S512x64 .f32) (ix2 (row b t) d)
      = query (args m c) t b d := by
  have h : (W4 m ρ c (Proc.devRef .tc main_call0_v7_1) : FVec Ideal S512x64 .f32)
      = Arrays.queries (W3 m ρ c (Proc.devRef .tc main_call0_v1) : FVec Ideal S512x1024 .f32)
        (W3 m ρ c (Proc.devRef .tc main_arg8) : FVec Ideal S64x1024 .f32)
        (W3 m ρ c (Proc.devRef .tc main_call0_v6) : FVec Ideal S1x64 .f32) :=
    (W4_arr m ρ c 6).trans (Arrays.queries_left (V3 m ρ) c)
  rw [h, queries_of _ _ _ _ _ (x_kept m ρ c b t) (bq_read m ρ c d), W3_args m ρ c main_arg8 (by decide)]
  rfl

/-- The weights the third call leaves. -/
theorem weight_left (hf : ∀ t b j, -1 < score (args m c) t b j) (b : Fin 32) (t : Fin 16) (n : Fin 33) :
    (W5 m ρ c (Proc.devRef .tc main_call0_v8_0) : FVec Ideal S512x33 .f32) (ix2 (row b t) n)
      = weight (args m c) t b n := by
  have h : (W5 m ρ c (Proc.devRef .tc main_call0_v8_0) : FVec Ideal S512x33 .f32) = _ :=
    (W5_arr m ρ c 1).trans (Arrays.weights_left (V4 m ρ) c)
  rw [h]
  exact Route.weights_at (logit_left m ρ c b t) (hf t b) n

/-- The marks the third call leaves. -/
theorem mark_left (hf : ∀ t b j, -1 < score (args m c) t b j) (b : Fin 32) (s : Fin 16) (n : Fin 33) :
    (W5 m ρ c (Proc.devRef .tc main_call0_v8_1) : FVec Ideal S512x33 .f32) (ix2 (row b s) n)
      = mark (args m c) s b n := by
  have h : (W5 m ρ c (Proc.devRef .tc main_call0_v8_1) : FVec Ideal S512x33 .f32) = _ :=
    (W5_arr m ρ c 2).trans (Arrays.marks_left (V4 m ρ) c)
  rw [h]
  exact Route.marks_at (logit_left m ρ c b s) (hf s b) n

/-- The fourth call's keys. -/
theorem v12_read (b : Fin 32) (s : Fin 16) (n : Fin 33) (d : Fin 64) :
    (W6 m ρ c (Proc.devRef .tc main_call0_v12) : FVec Ideal S8x4x528x64 .f32)
      (ix4 (blockOf b) (placeOf b) (Attn.spot s n) d) = key (args m c) s b n d := by
  have h : (W6 m ρ c (Proc.devRef .tc main_call0_v12) : FVec Ideal S8x4x528x64 .f32)
      = shapeCast S8x4x528x64 (W5 m ρ c (Proc.devRef .tc main_call0_v4_0) : FVec Ideal S512x2112 .f32) shapeCasts_S512x2112_S8x4x528x64 := by
    unfold W6; after_results; rfl
  have h2 : (W5 m ρ c (Proc.devRef .tc main_call0_v4_0) : FVec Ideal S512x2112 .f32) = W2 m ρ c (Proc.devRef .tc main_call0_v4_0) :=
    (W5_of m ρ c _ (by decide)).trans ((W4_of m ρ c _ (by decide)).trans (W3_of m ρ c _ (by decide)))
  rw [h, h2, cast_kv, key_left]

/-- The fourth call's values. -/
theorem v13_read (b : Fin 32) (s : Fin 16) (n : Fin 33) (d : Fin 64) :
    (W6 m ρ c (Proc.devRef .tc main_call0_v13) : FVec Ideal S8x4x528x64 .f32)
      (ix4 (blockOf b) (placeOf b) (Attn.spot s n) d) = val (args m c) s b n d := by
  have h : (W6 m ρ c (Proc.devRef .tc main_call0_v13) : FVec Ideal S8x4x528x64 .f32)
      = shapeCast S8x4x528x64 (W5 m ρ c (Proc.devRef .tc main_call0_v4_1) : FVec Ideal S512x2112 .f32) shapeCasts_S512x2112_S8x4x528x64 := by
    unfold W6; after_results; rfl
  have h2 : (W5 m ρ c (Proc.devRef .tc main_call0_v4_1) : FVec Ideal S512x2112 .f32) = W2 m ρ c (Proc.devRef .tc main_call0_v4_1) :=
    (W5_of m ρ c _ (by decide)).trans ((W4_of m ρ c _ (by decide)).trans (W3_of m ρ c _ (by decide)))
  rw [h, h2, cast_kv, val_left]

/-- The fourth call's queries. -/
theorem v11_read (b : Fin 32) (t : Fin 16) (d : Fin 64) :
    (W6 m ρ c (Proc.devRef .tc main_call0_v11) : FVec Ideal S8x4x16x64 .f32)
      (ix4 (blockOf b) (placeOf b) t d) = query (args m c) t b d := by
  have h : (W6 m ρ c (Proc.devRef .tc main_call0_v11) : FVec Ideal S8x4x16x64 .f32)
      = shapeCast S8x4x16x64 (W5 m ρ c (Proc.devRef .tc main_call0_v7_1) : FVec Ideal S512x64 .f32) shapeCasts_S512x64_S8x4x16x64 := by
    unfold W6; after_results; rfl
  have h2 : (W5 m ρ c (Proc.devRef .tc main_call0_v7_1) : FVec Ideal S512x64 .f32) = W4 m ρ c (Proc.devRef .tc main_call0_v7_1) :=
    W5_of m ρ c _ (by decide)
  rw [h, h2, cast_q, query_left]

/-- The fourth call's weights. -/
theorem v9_read (hf : ∀ t b j, -1 < score (args m c) t b j) (b : Fin 32) (t : Fin 16) (n : Fin 33) :
    (W6 m ρ c (Proc.devRef .tc main_call0_v9) : FVec Ideal S8x4x16x33 .f32)
      (ix4 (blockOf b) (placeOf b) t n) = weight (args m c) t b n := by
  have h : (W6 m ρ c (Proc.devRef .tc main_call0_v9) : FVec Ideal S8x4x16x33 .f32)
      = shapeCast S8x4x16x33 (W5 m ρ c (Proc.devRef .tc main_call0_v8_0) : FVec Ideal S512x33 .f32) shapeCasts_S512x33_S8x4x16x33 := by
    unfold W6; after_results; rfl
  rw [h, cast_w, weight_left m ρ c hf]

/-- The fourth call's marks. -/
theorem v10_read (hf : ∀ t b j, -1 < score (args m c) t b j) (b : Fin 32) (s : Fin 16) (n : Fin 33) :
    (W6 m ρ c (Proc.devRef .tc main_call0_v10) : FVec Ideal S8x1x2112 .f32)
      (ix3 (blockOf b) 0 (Attn.col (placeOf b) s n)) = mark (args m c) s b n := by
  have h : (W6 m ρ c (Proc.devRef .tc main_call0_v10) : FVec Ideal S8x1x2112 .f32)
      = shapeCast S8x1x2112 (W5 m ρ c (Proc.devRef .tc main_call0_v8_1) : FVec Ideal S512x33 .f32) shapeCasts_S512x33_S8x1x2112 := by
    unfold W6; after_results; rfl
  rw [h, cast_m, mark_left m ρ c hf]

/-- The kernel's result, entry by entry. -/
theorem result (hf : ∀ t b j, -1 < score (args m c) t b j) (t : Fin 16) (b : Fin 32) (e : Fin 64) :
    (W8 m ρ c (Proc.devRef .tc main_v0) : FVec Ideal S16x32x64 .f32) (ix3 t b e) = fused (args m c) t b e := by
  have h : (W8 m ρ c (Proc.devRef .tc main_v0) : FVec Ideal S16x32x64 .f32)
      = transpose S16x32x64 [1, 0, 2] (shapeCast S32x16x64
        (W7 m ρ c (Proc.devRef .tc main_call0_v14) : FVec Ideal S8x4x16x64 .f32) shapeCasts_S8x4x16x64_S32x16x64)
        transposes_S32x16x64_S16x32x64_1_0_2 := by
    unfold W8; after_results; rfl
  have h2 : (W7 m ρ c (Proc.devRef .tc main_call0_v14) : FVec Ideal S8x4x16x64 .f32)
      = Arrays.attn (W6 m ρ c (Proc.devRef .tc main_call0_v9) : FVec Ideal S8x4x16x33 .f32)
        (W6 m ρ c (Proc.devRef .tc main_call0_v10) : FVec Ideal S8x1x2112 .f32)
        (W6 m ρ c (Proc.devRef .tc main_call0_v11) : FVec Ideal S8x4x16x64 .f32)
        (W6 m ρ c (Proc.devRef .tc main_call0_v12) : FVec Ideal S8x4x528x64 .f32)
        (W6 m ρ c (Proc.devRef .tc main_call0_v13) : FVec Ideal S8x4x528x64 .f32)
        (W6 m ρ c (Proc.devRef .tc main_arg1) : FVec Ideal S64x64 .f32) :=
    (W7_arr m ρ c 6).trans (Arrays.attn_left (V6 m ρ) c)
  rw [h, cast_o, h2]
  exact attn_of (args m c) t b e _ _ _ _ _ _ (v9_read m ρ c hf b t) (v10_read m ρ c hf b) (v11_read m ρ c b t)
    (v12_read m ρ c b) (v13_read m ρ c b) (fun d => by rw [W6_args m ρ c main_arg1 (by decide)]; rfl)

end Cert.Chain
end
-- ==== Proof.Equation.lean ====
/- The fused form of the output equals the step-by-step one when every argument but the initial memory is finite. -/
module

public import proofs.«01_k».proof.Proof.Spec

@[expose] public section

noncomputable section

namespace Cert.Spec

open Idealize.ShloMosaic

/-- Every argument but the initial memory is a real number at every index. -/
structure Finite (A : Args) : Prop where
  X : ∀ t b i, ∃ r : ℝ, A.X t b i = r
  Wk : ∀ j i, ∃ r : ℝ, A.Wk j i = r
  bk : ∀ j, ∃ r : ℝ, A.bk j = r
  Wv : ∀ j i, ∃ r : ℝ, A.Wv j i = r
  bv : ∀ j, ∃ r : ℝ, A.bv j = r
  Wg : ∀ j i, ∃ r : ℝ, A.Wg j i = r
  bg : ∀ j, ∃ r : ℝ, A.bg j = r
  Wq : ∀ j i, ∃ r : ℝ, A.Wq j i = r
  bq : ∀ j, ∃ r : ℝ, A.bq j = r

/-! ## Sums and quotients of reals -/

/-- A sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A linear layer of reals is real. -/
theorem layer_real {ι : Type} [Fintype ι] {x w : ι → EReal} {β : EReal} (hx : ∀ i, ∃ r : ℝ, x i = r)
    (hw : ∀ i, ∃ r : ℝ, w i = r) (hb : ∃ r : ℝ, β = r) : ∃ r : ℝ, (∑ i, x i * w i) + β = r := by
  choose x' hx' using hx
  choose w' hw' using hw
  obtain ⟨β', rfl⟩ := hb
  refine ⟨(∑ i, x' i * w' i) + β', ?_⟩
  rw [EReal.coe_add, ← coe_sum]
  refine congrArg (fun s : EReal => s + _) (Finset.sum_congr rfl fun i _ => ?_)
  rw [hx', hw', EReal.coe_mul]

/-- A quotient of reals by a nonzero real is the real quotient. -/
theorem div_real (x y : ℝ) (hy : y ≠ 0) : Ideal.div (x : EReal) (y : EReal) = ((x / y : ℝ) : EReal) := by
  rw [Ideal.div, if_neg (by exact_mod_cast hy), div_eq_mul_inv, EReal.coe_mul, EReal.coe_inv]

variable {A : Args} (hA : Finite A) (t : Fin 16) (b : Fin 32)

include hA

/-- The logits are real. -/
theorem logit_real (m : Fin 32) : ∃ r : ℝ, logit A t b m = r := layer_real (hA.X t b) (hA.Wg m) (hA.bg m)

/-- The keys are real. -/
theorem key_real (n : Fin 33) (d : Fin 64) : ∃ r : ℝ, key A t b n d = r := layer_real (hA.X t b) (hA.Wk _) (hA.bk _)

/-- The values are real. -/
theorem val_real (n : Fin 33) (d : Fin 64) : ∃ r : ℝ, val A t b n d = r := layer_real (hA.X t b) (hA.Wv _) (hA.bv _)

/-- The queries are real. -/
theorem query_real (d : Fin 64) : ∃ r : ℝ, query A t b d = r := layer_real (hA.X t b) (hA.Wq d) (hA.bq d)

/-- The scores are positive reals. -/
theorem score_real (m : Fin 32) : ∃ r : ℝ, 0 < r ∧ score A t b m = r := by
  choose l hl using logit_real hA t b
  obtain ⟨a, _, ha⟩ := Finset.exists_mem_eq_sup (Finset.univ : Finset (Fin 32)) ⟨0, Finset.mem_univ _⟩ (logit A t b)
  have hx : ∀ m, expo A t b m = ((Real.exp (l m - l a) : ℝ) : EReal) := fun m => by
    rw [expo, top, ha, hl, hl, ← EReal.coe_sub]
    rfl
  have hs : (0 : ℝ) < ∑ m', Real.exp (l m' - l a) :=
    Finset.sum_pos (fun _ _ => Real.exp_pos _) ⟨0, Finset.mem_univ _⟩
  refine ⟨Real.exp (l m - l a) / ∑ m', Real.exp (l m' - l a), div_pos (Real.exp_pos _) hs, ?_⟩
  rw [score]
  simp only [hx]
  rw [coe_sum, div_real _ _ hs.ne']

/-- The scores are above minus one. -/
theorem score_above (m : Fin 32) : -1 < score A t b m := by
  obtain ⟨r, hr, h⟩ := score_real hA t b m
  rw [h]
  exact lt_of_lt_of_le (EReal.coe_lt_coe_iff.mpr (by norm_num : (-1 : ℝ) < 0)) (EReal.coe_le_coe_iff.mpr hr.le)

/-- The gates are positive reals that sum to one, and the weights are the gates summed over the best states. -/
theorem gate_real : ∃ g : Fin 4 → ℝ, (∀ r, 0 < g r) ∧ ∑ r, g r = 1 ∧ (∀ r, gate A t b r = g r)
    ∧ ∀ m : Fin 32, weight A t b m.succ = ((∑ r, if m = best A t b r then g r else 0 : ℝ) : EReal) := by
  choose σ hp hσ using score_real hA t b
  have hs : (0 : ℝ) < ∑ r, σ (best A t b r) := Finset.sum_pos (fun _ _ => hp _) ⟨0, Finset.mem_univ _⟩
  refine ⟨fun r => σ (best A t b r) / ∑ r', σ (best A t b r'), fun r => div_pos (hp _) hs, ?_, fun r => ?_, fun m => ?_⟩
  · rw [← Finset.sum_div, div_self hs.ne']
  · rw [gate]
    simp only [hσ]
    rw [coe_sum, div_real _ _ hs.ne']
  · show Ideal.div (∑ r, if m = best A t b r then score A t b m else 0) (∑ r, score A t b (best A t b r)) = _
    have h : ∀ r, (if m = best A t b r then score A t b m else 0)
        = ((if m = best A t b r then σ (best A t b r) else 0 : ℝ) : EReal) := fun r => by
      split_ifs with hm
      · rw [hσ, ← hm]
      · rfl
    simp only [h]
    simp only [hσ]
    rw [coe_sum, coe_sum, div_real _ _ hs.ne', Finset.sum_div]
    refine congrArg _ (Finset.sum_congr rfl fun r _ => ?_)
    split_ifs
    · rfl
    · exact zero_div _

omit hA

open Classical in
/-- The mark says whether the slot is written. -/
theorem mark_eq (n : Fin 33) : mark A t b n = ((if writes A t b n then 1 else 0 : ℝ) : EReal) := by
  refine Fin.cases ?_ (fun m => ?_) n
  · rw [if_pos (show writes A t b 0 from Or.inl rfl)]
    rfl
  · show (if ∃ r, m = best A t b r then (1 : EReal) else 0) = _
    have h : writes A t b m.succ ↔ ∃ r, m = best A t b r :=
      ⟨fun h => h.elim (fun h => absurd h (Fin.succ_ne_zero m)) fun ⟨r, h⟩ => ⟨r, Fin.succ_injective _ h⟩,
        fun ⟨r, h⟩ => Or.inr ⟨r, congrArg Fin.succ h⟩⟩
    by_cases hm : ∃ r, m = best A t b r
    · rw [if_pos hm, if_pos (h.mpr hm)]
      rfl
    · rw [if_neg hm, if_neg (fun hw => hm (h.mp hw))]
      rfl

/-! ## The initial memory, which may be infinite -/

/-- Entries that share one initial value, blended with gates that sum to one and added to one more: the value comes twice. -/
theorem blend (m : EReal) (g a : Fin 4 → ℝ) (a0 : ℝ) (hg : ∀ r, 0 < g r) (h1 : ∑ r, g r = 1) :
    (∑ r, (m + (a r : EReal)) * (g r : EReal)) + (m + (a0 : EReal))
      = (m + m) + (((∑ r, a r * g r) + a0 : ℝ) : EReal) := by
  induction m with
  | bot => simp only [EReal.bot_add, EReal.add_bot]
  | top =>
    have h : ∀ r, (⊤ + (a r : EReal)) * (g r : EReal) = ⊤ := fun r => by
      rw [EReal.top_add_coe, EReal.top_mul_coe_of_pos (hg r)]
    rw [Finset.sum_congr rfl fun r _ => h r]
    simp only [Fin.sum_univ_four, EReal.top_add_coe, EReal.top_add_top]
  | coe m =>
    simp only [← EReal.coe_add, ← EReal.coe_mul, coe_sum]
    refine congrArg _ ?_
    simp only [add_mul, Finset.sum_add_distrib, ← Finset.mul_sum, h1]
    ring

/-- A real times a doubled value plus a real. -/
theorem twice (q r : ℝ) (m : EReal) :
    (q : EReal) * ((m + m) + (r : EReal)) = ((q : EReal) * m + (q : EReal) * m) + ((q * r : ℝ) : EReal) := by
  induction m with
  | bot =>
    simp only [EReal.bot_add]
    rcases lt_trichotomy q 0 with h | h | h
    · rw [EReal.coe_mul_bot_of_neg h, EReal.top_add_top, EReal.top_add_coe]
    · subst h; simp
    · rw [EReal.coe_mul_bot_of_pos h, EReal.bot_add, EReal.bot_add]
  | top =>
    simp only [EReal.top_add_top, EReal.top_add_coe]
    rcases lt_trichotomy q 0 with h | h | h
    · rw [EReal.coe_mul_top_of_neg h, EReal.bot_add, EReal.bot_add]
    · subst h; simp
    · rw [EReal.coe_mul_top_of_pos h, EReal.top_add_top, EReal.top_add_coe]
  | coe m =>
    simp only [← EReal.coe_add, ← EReal.coe_mul]
    refine congrArg _ ?_
    ring

/-- Twice a value is the value added to itself. -/
theorem two_times (x : EReal) : 2 * x = x + x := by
  have e : (2 : EReal) = ((1 + 1 : ℝ) : EReal) := by norm_num; rfl
  induction x with
  | bot => rw [EReal.bot_add, e, EReal.coe_mul_bot_of_pos (by norm_num)]
  | top => rw [EReal.top_add_top, e, EReal.coe_mul_top_of_pos (by norm_num)]
  | coe x =>
    rw [e, ← EReal.coe_mul, ← EReal.coe_add]
    refine congrArg _ ?_
    ring

/-! ## The finite part -/

/-- Both orders of the finite sums agree: the writes weighed one by one, and the memory built first. -/
theorem regroup (T : Fin 16 → Prop) [DecidablePred T] (w : Fin 16 → Fin 33 → Prop) [∀ s n, Decidable (w s n)]
    (q : Fin 64 → ℝ) (k : Fin 16 → Fin 33 → Fin 64 → ℝ) (v : Fin 16 → Fin 33 → ℝ) (g : Fin 4 → ℝ) (p : Fin 4 → Fin 32)
    (W : Fin 33 → ℝ) (hW0 : W 0 = 1) (hW : ∀ m : Fin 32, W m.succ = ∑ r, if m = p r then g r else 0) :
    (∑ s, ∑ n, if T s then ((∑ d, q d * k s n d) * W n * (if w s n then 1 else 0)) * v s n else 0)
      = ∑ d, q d * ((∑ r, (∑ s, if T s ∧ w s (p r).succ then k s (p r).succ d * v s (p r).succ else 0) * g r)
          + ∑ s, if T s ∧ w s 0 then k s 0 d * v s 0 else 0) := by
  have hf : ∀ n, ∑ d, q d * (∑ s, if T s ∧ w s n then k s n d * v s n else 0)
      = ∑ s, if T s then ((∑ d, q d * k s n d) * (if w s n then 1 else 0)) * v s n else 0 := fun n => by
    simp only [Finset.mul_sum]
    rw [Finset.sum_comm]
    refine Finset.sum_congr rfl fun s _ => ?_
    by_cases hT : T s
    · by_cases hw : w s n
      · simp only [hT, hw, and_self, if_true, mul_one, Finset.sum_mul]
        exact Finset.sum_congr rfl fun d _ => by ring
      · simp [hw]
    · simp [hT]
  have hl : (∑ s, ∑ n, if T s then ((∑ d, q d * k s n d) * W n * (if w s n then 1 else 0)) * v s n else 0)
      = ∑ n, W n * ∑ s, if T s then ((∑ d, q d * k s n d) * (if w s n then 1 else 0)) * v s n else 0 := by
    rw [Finset.sum_comm]
    refine Finset.sum_congr rfl fun n _ => ?_
    rw [Finset.mul_sum]
    refine Finset.sum_congr rfl fun s _ => ?_
    split_ifs <;> ring
  rw [hl]
  simp only [← hf, mul_add, Finset.sum_add_distrib]
  rw [Fin.sum_univ_succ, hW0, one_mul, add_comm]
  refine congrArg (fun x : ℝ => x + _) ?_
  simp only [hW]
  generalize hF : (fun n d => ∑ s, if T s ∧ w s n then k s n d * v s n else 0) = F
  have hF' : ∀ n d, (∑ s, if T s ∧ w s n then k s n d * v s n else 0) = F n d := fun n d => by rw [← hF]
  simp only [hF', Finset.sum_mul, ite_mul, zero_mul]
  rw [Finset.sum_comm]
  simp only [Finset.mul_sum (Finset.univ : Finset (Fin 4))]
  rw [Finset.sum_comm (s := (Finset.univ : Finset (Fin 64)))]
  refine Finset.sum_congr rfl fun r _ => ?_
  rw [Finset.sum_ite_eq' Finset.univ (p r), if_pos (Finset.mem_univ _), Finset.mul_sum]
  exact Finset.sum_congr rfl fun d _ => by ring

include hA

open Classical in
/-- The fused form and the step-by-step form of the output agree, whatever the initial memory holds. -/
theorem fused_eq_out (e : Fin 64) : fused A t b e = out A t b e := by
  choose k hk using fun s n d => key_real hA s b n d
  choose v hv using fun s n => val_real hA s b n e
  choose q hq using fun d => query_real hA t b d
  obtain ⟨g, hg, h1, hgate, hweight⟩ := gate_real hA t b
  have hmem : ∀ n d, mem A b (t.val + 1) n d e = A.M0 d e
      + ((∑ s : Fin 16, if s.val ≤ t.val ∧ writes A s b n then k s n d * v s n else 0 : ℝ) : EReal) := fun n d => by
    rw [mem, Finset.sum_filter, ← coe_sum]
    refine congrArg (fun x : EReal => _ + x) (Finset.sum_congr rfl fun s _ => ?_)
    by_cases h : s.val ≤ t.val ∧ writes A s b n
    · rw [if_pos h, if_pos ⟨Nat.lt_succ_of_le h.1, h.2⟩, hk, hv, EReal.coe_mul]
    · rw [if_neg h, if_neg (fun h' => h ⟨Nat.le_of_lt_succ h'.1, h'.2⟩), EReal.coe_zero]
  let W : Fin 33 → ℝ := fun n => Fin.cases 1 (fun m => ∑ r, if m = best A t b r then g r else 0) n
  have hW : ∀ n, weight A t b n = (W n : EReal) := fun n => by
    refine Fin.cases ?_ (fun m => ?_) n
    · rfl
    · exact hweight m
  have hout : out A t b e = (2 * ∑ d, query A t b d * A.M0 d e)
      + ((∑ d, q d * ((∑ r, (∑ s : Fin 16, if s.val ≤ t.val ∧ writes A s b (best A t b r).succ
            then k s (best A t b r).succ d * v s (best A t b r).succ else 0) * g r)
          + ∑ s : Fin 16, if s.val ≤ t.val ∧ writes A s b 0 then k s 0 d * v s 0 else 0) : ℝ) : EReal) := by
    rw [out, two_times, ← Finset.sum_add_distrib, ← coe_sum, ← Finset.sum_add_distrib]
    refine Finset.sum_congr rfl fun d _ => ?_
    rw [mixed]
    simp only [hmem, hgate]
    rw [blend _ _ _ _ hg h1, hq, twice]
    rfl
  have hfin : (∑ s : Fin 16, ∑ n : Fin 33, if s.val ≤ t.val then
      ((∑ d : Fin 64, query A t b d * key A s b n d) * weight A t b n * mark A s b n) * val A s b n e else 0)
      = ((∑ s : Fin 16, ∑ n : Fin 33, if s.val ≤ t.val then
        ((∑ d, q d * k s n d) * W n * (if writes A s b n then 1 else 0)) * v s n else 0 : ℝ) : EReal) := by
    rw [← coe_sum]
    refine Finset.sum_congr rfl fun s _ => ?_
    rw [← coe_sum]
    refine Finset.sum_congr rfl fun n _ => ?_
    split_ifs with hs hw
    · simp only [hq, hk, ← EReal.coe_mul, coe_sum, hW, hv, mark_eq, if_pos hw]
    · simp only [hq, hk, ← EReal.coe_mul, coe_sum, hW, hv, mark_eq, if_neg hw]
    · rfl
  rw [fused, hfin, hout, add_comm]
  refine congrArg (fun x : ℝ => _ + (x : EReal)) ?_
  exact regroup (fun s => s.val ≤ t.val) (fun s n => writes A s b n) q k v g (best A t b) W rfl (fun m => rfl)

end Cert.Spec

end
-- ==== Proof.Finite.lean ====
/- What the precondition says: every argument but the initial memory is a real number at every index. -/
module

public import proofs.«01_k».proof.Proof.Chain
public import proofs.«01_k».proof.Proof.Equation
public import proofs.«01_k».proof.Defs
public import proofs.«01_k».proof.Proof.Gen.Pre_finite
public import Idealize.ShloMosaic.Lib.ReduceAll

@[expose] public section

set_option maxRecDepth 16384

noncomputable section

namespace Cert.Whether

open Idealize.ShloMosaic Idealize.ShloMosaic.TcCoe
open Cert.Pre_finite

/-- The pattern of plus infinity. -/
theorem ofBits_top : Ideal.ofBits .f32 0x7F800000#32 = ⊤ := by simp [Ideal.ofBits, Ideal.ieee]

/-- A value whose magnitude is below plus infinity is real. -/
theorem real_of_below (x : EReal) (h : max x (-x) < ⊤) : ∃ r : ℝ, x = r := by
  induction x with
  | bot => simp at h
  | top => simp at h
  | coe r => exact ⟨r, rfl⟩

/-- Two one-bit words whose conjunction is one are both one. -/
theorem both (a b : BitVec 1) (h : IntOp.andi a b = 1#1) : a = 1#1 ∧ b = 1#1 := by
  revert a b
  decide

/-- An array all of whose magnitudes are below plus infinity is real at every index. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ r : ℝ, x i = r := by
  have : Subsingleton S_.Idx := ⟨fun a b => funext fun k => k.elim0⟩
  have e := Host.reduce_andi_all _ _ hr hu j h i
  refine real_of_below (x i) ?_
  have e' : Ideal.cmp .olt (max (x i) (-(x i))) (Ideal.ofBits .f32 0x7F800000#32) = 1#1 := e
  rw [ofBits_top] at e'
  by_contra hn
  simp [Ideal.cmp, hn] at e'

variable [Facts]

/-- The precondition gives every tested array's entries as reals. -/
theorem reals (x : FVec Ideal S16x32x1024 .f32) (m0 : FVec Ideal S64x64 .f32) (wk : FVec Ideal S2112x1024 .f32)
    (bk : FVec Ideal S2112 .f32) (wv : FVec Ideal S2112x1024 .f32) (bv : FVec Ideal S2112 .f32)
    (wg : FVec Ideal S32x1024 .f32) (bg : FVec Ideal S32 .f32) (wq : FVec Ideal S64x1024 .f32) (bq : FVec Ideal S64 .f32)
    (h : fn (F := Ideal) x m0 wk bk wv bv wg bg wq bq = fun _ => 1#1) :
    (∀ i, ∃ r : ℝ, x i = r) ∧ (∀ i, ∃ r : ℝ, wk i = r) ∧ (∀ i, ∃ r : ℝ, bk i = r) ∧ (∀ i, ∃ r : ℝ, wv i = r)
      ∧ (∀ i, ∃ r : ℝ, bv i = r) ∧ (∀ i, ∃ r : ℝ, wg i = r) ∧ (∀ i, ∃ r : ℝ, bg i = r) ∧ (∀ i, ∃ r : ℝ, wq i = r)
      ∧ (∀ i, ∃ r : ℝ, bq i = r) := by
  have e := congrFun h fun k => k.elim0
  obtain ⟨e, h9⟩ := both _ _ e
  obtain ⟨e, h8⟩ := both _ _ e
  obtain ⟨e, h7⟩ := both _ _ e
  obtain ⟨e, h6⟩ := both _ _ e
  obtain ⟨e, h5⟩ := both _ _ e
  obtain ⟨e, h4⟩ := both _ _ e
  obtain ⟨e, h3⟩ := both _ _ e
  obtain ⟨h0, h2⟩ := both _ _ e
  exact ⟨all_real x _ _ _ _ h0, all_real wk _ _ _ _ h2, all_real bk _ _ _ _ h3, all_real wv _ _ _ _ h4,
    all_real bv _ _ _ _ h5, all_real wg _ _ _ _ h6, all_real bg _ _ _ _ h7, all_real wq _ _ _ _ h8,
    all_real bq _ _ _ _ h9⟩

omit [Facts]

/-- Under the precondition the kernel's arguments, but for the initial memory, are real. -/
theorem finite (m : (ℓ : Loc Cert.KernelIdeal.nD Cert.KernelIdeal.τ Cert.KernelIdeal.sig) → Buf (Elt Ideal) ℓ)
    (h : @Cert.Pre_KernelIdeal_finite Cert.Pre_finite.Gen.facts m) (c : Dev Cert.KernelIdeal.nD) :
    Spec.Finite (Chain.args m c) := by
  obtain ⟨hx, hwk, hbk, hwv, hbv, hwg, hbg, hwq, hbq⟩ :=
    @reals Cert.Pre_finite.Gen.facts _ _ _ _ _ _ _ _ _ _ (h c)
  exact ⟨fun t b i => hx (ix3 t b i), fun j i => hwk (ix2 j i), fun j => hbk (ix1 j), fun j i => hwv (ix2 j i),
    fun j => hbv (ix1 j), fun j i => hwg (ix2 j i), fun j => hbg (ix1 j), fun j i => hwq (ix2 j i), fun j => hbq (ix1 j)⟩

end Cert.Whether

end
-- ==== Proof.RefStep.lean ====
/- What one step of the reference computes, entry by entry. -/
module

public import proofs.«01_k».proof.Proof.Gen.ReferenceIdeal.Step
public import proofs.«01_k».proof.Proof.Spec
public import Idealize.ShloMosaic.Lib.Pointwise
public import Idealize.ShloMosaic.Lib.Routing.OpsPair
public import Idealize.ShloMosaic.Lib.SortFacts

@[expose] public section

set_option maxRecDepth 16384

noncomputable section

namespace Cert.RefStep

open Idealize.ShloMosaic
open Cert.ReferenceIdeal Cert.ReferenceIdeal.Gen Cert.ReferenceIdeal.Step Cert.Spec

/-- The first lookup: row `b`, slot word `k`. -/
theorem gather5 (x : FVec Ideal S32x33x64x64 .f32) (idx : IVec S32x5x1 32) (b : Fin 32) (k : Fin 5) (d e : Fin 64) (n : Fin 33)
    (h : (idx (ix3 b k 0)).toInt = n.val) :
    Host.gather gather_S32x33x64x64_S32x5x1_S32x5x64x64_23_1_0_0_1_2_116464 x idx (ix4 b k d e) = x (ix4 b n d e) := by
  unfold Host.gather
  congr 1
  funext a
  apply Fin.ext
  match a with
  | ⟨0, _⟩ => show 0 + b.val + 0 = b.val; omega
  | ⟨1, _⟩ =>
    have e : (gather_S32x33x64x64_S32x5x1_S32x5x64x64_23_1_0_0_1_2_116464).siIdx (ix4 b k d e) ⟨0, by decide⟩ = ix3 b k 0 := by
      funext a; apply Fin.ext
      match a with
      | ⟨0, _⟩ => rfl
      | ⟨1, _⟩ => rfl
      | ⟨2, _⟩ => rfl
    show min ((idx ((gather_S32x33x64x64_S32x5x1_S32x5x64x64_23_1_0_0_1_2_116464).siIdx (ix4 b k d _) ⟨0, by decide⟩)).toInt.toNat) (33 - 1) + 0 + 0 = n.val
    rw [e, h]
    have := n.isLt
    omega
  | ⟨2, _⟩ => show 0 + 0 + d.val = d.val; omega
  | ⟨3, _⟩ => show 0 + 0 + e.val = e.val; omega

/-- The second lookup: row `b`, slot word `k`. -/
theorem gather4 (x : FVec Ideal S32x33x64x64 .f32) (idx : IVec S32x4x1 32) (b : Fin 32) (k : Fin 4) (d e : Fin 64) (n : Fin 33)
    (h : (idx (ix3 b k 0)).toInt = n.val) :
    Host.gather gather_S32x33x64x64_S32x4x1_S32x4x64x64_23_1_0_0_1_2_116464 x idx (ix4 b k d e) = x (ix4 b n d e) := by
  unfold Host.gather
  congr 1
  funext a
  apply Fin.ext
  match a with
  | ⟨0, _⟩ => show 0 + b.val + 0 = b.val; omega
  | ⟨1, _⟩ =>
    have e : (gather_S32x33x64x64_S32x4x1_S32x4x64x64_23_1_0_0_1_2_116464).siIdx (ix4 b k d e) ⟨0, by decide⟩ = ix3 b k 0 := by
      funext a; apply Fin.ext
      match a with
      | ⟨0, _⟩ => rfl
      | ⟨1, _⟩ => rfl
      | ⟨2, _⟩ => rfl
    show min ((idx ((gather_S32x33x64x64_S32x4x1_S32x4x64x64_23_1_0_0_1_2_116464).siIdx (ix4 b k d _) ⟨0, by decide⟩)).toInt.toNat) (33 - 1) + 0 + 0 = n.val
    rw [e, h]
    have := n.isLt
    omega
  | ⟨2, _⟩ => show 0 + 0 + d.val = d.val; omega
  | ⟨3, _⟩ => show 0 + 0 + e.val = e.val; omega

/-- The entry an update is added to. -/
theorem lands (idx : IVec S32x5x2 32) (b : Fin 32) (k : Fin 5) (d e : Fin 64) (b' : Fin 32) (n : Fin 33) (d' e' : Fin 64) :
    scatter_S32x33x64x64_S32x5x2_S32x5x64x64_23_01_01_2.resultIdx? (ix4 b k d e) idx = some (ix4 b' n d' e')
    ↔ (idx (ix3 b k 0)).toInt = b'.val ∧ (idx (ix3 b k 1)).toInt = n.val ∧ d = d' ∧ e = e' := by
  rw [Routing.resultIdx?_eq_some]
  have h0 : scatter_S32x33x64x64_S32x5x2_S32x5x64x64_23_01_01_2.start (ix4 b k d e) idx 0 = (idx (ix3 b k 0)).toInt := by
    show (idx _).toInt = _
    congr 2
    funext a; apply Fin.ext
    match a with
    | ⟨0, _⟩ => rfl
    | ⟨1, _⟩ => rfl
    | ⟨2, _⟩ => rfl
  have h1 : scatter_S32x33x64x64_S32x5x2_S32x5x64x64_23_01_01_2.start (ix4 b k d e) idx 1 = (idx (ix3 b k 1)).toInt := by
    show (idx _).toInt = _
    congr 2
    funext a; apply Fin.ext
    match a with
    | ⟨0, _⟩ => rfl
    | ⟨1, _⟩ => rfl
    | ⟨2, _⟩ => rfl
  have h2 : scatter_S32x33x64x64_S32x5x2_S32x5x64x64_23_01_01_2.start (ix4 b k d e) idx 2 = 0 := rfl
  have h3 : scatter_S32x33x64x64_S32x5x2_S32x5x64x64_23_01_01_2.start (ix4 b k d e) idx 3 = 0 := rfl
  have w0 : scatter_S32x33x64x64_S32x5x2_S32x5x64x64_23_01_01_2.window (ix4 b k d e) 0 = 0 := rfl
  have w1 : scatter_S32x33x64x64_S32x5x2_S32x5x64x64_23_01_01_2.window (ix4 b k d e) 1 = 0 := rfl
  have w2 : scatter_S32x33x64x64_S32x5x2_S32x5x64x64_23_01_01_2.window (ix4 b k d e) 2 = d.val := rfl
  have w3 : scatter_S32x33x64x64_S32x5x2_S32x5x64x64_23_01_01_2.window (ix4 b k d e) 3 = e.val := rfl
  constructor
  · intro h
    have a0 := h 0
    have a1 := h 1
    have a2 := h 2
    have a3 := h 3
    rw [h0, w0] at a0
    rw [h1, w1] at a1
    rw [h2, w2] at a2
    rw [h3, w3] at a3
    refine ⟨by simpa using a0, by simpa using a1, Fin.ext ?_, Fin.ext ?_⟩
    · have : ((0 : ℤ) + d.val) = (d'.val : ℤ) := a2
      omega
    · have : ((0 : ℤ) + e.val) = (e'.val : ℤ) := a3
      omega
  · rintro ⟨a0, a1, rfl, rfl⟩ a
    match a with
    | ⟨0, _⟩ => exact (by rw [h0, w0, a0]; simp : scatter_S32x33x64x64_S32x5x2_S32x5x64x64_23_01_01_2.start (ix4 b k d e) idx 0 + ((scatter_S32x33x64x64_S32x5x2_S32x5x64x64_23_01_01_2.window (ix4 b k d e) 0 : ℕ) : ℤ) = (b'.val : ℤ))
    | ⟨1, _⟩ => exact (by rw [h1, w1, a1]; simp : scatter_S32x33x64x64_S32x5x2_S32x5x64x64_23_01_01_2.start (ix4 b k d e) idx 1 + ((scatter_S32x33x64x64_S32x5x2_S32x5x64x64_23_01_01_2.window (ix4 b k d e) 1 : ℕ) : ℤ) = (n.val : ℤ))
    | ⟨2, _⟩ => exact (by rw [h2, w2]; simp : scatter_S32x33x64x64_S32x5x2_S32x5x64x64_23_01_01_2.start (ix4 b k d e) idx 2 + ((scatter_S32x33x64x64_S32x5x2_S32x5x64x64_23_01_01_2.window (ix4 b k d e) 2 : ℕ) : ℤ) = (d.val : ℤ))
    | ⟨3, _⟩ => exact (by rw [h3, w3]; simp : scatter_S32x33x64x64_S32x5x2_S32x5x64x64_23_01_01_2.start (ix4 b k d e) idx 3 + ((scatter_S32x33x64x64_S32x5x2_S32x5x64x64_23_01_01_2.window (ix4 b k d e) 3 : ℕ) : ℤ) = (e.val : ℤ))

/-- The order the scores are sorted by. -/
theorem gt_decide (a b : EReal) : (FloatOps.cmpfTotal (F := Ideal) (φ := .f32) .gt a b == 1#1) = decide (b < a) := by
  show (Ideal.cmpTotal .gt a b == 1#1) = _
  unfold Ideal.cmpTotal Ideal.cmp
  by_cases h : b < a <;> simp [h, CmpDirection.ordered]

/-- One entry of the first four columns of a table read along each sorted row. -/
theorem sorted_at {β : Type} (x : FVec Ideal S32x32 .f32) (y : S32x32.Idx → β) (b : Fin 32) (r : Fin 4) (h1 : 1 < S32x32.rank)
    (hs : S32x32.Slices (fun _ => 0) S32x4) :
    extractStridedSlice S32x4 (fun _ => 0) (fun j : S32x32.Idx => y (j.along ⟨1, h1⟩
      (sortedFrom (fun k k' => FloatOps.cmpfTotal (F := Ideal) (φ := .f32) .gt (x (j.along ⟨1, h1⟩ k)) (x (j.along ⟨1, h1⟩ k')) == 1#1)
        (j ⟨1, h1⟩)))) hs (ix2 b r)
      = y (ix2 b (sortedFrom (fun a a' => decide (x (ix2 b a') < x (ix2 b a))) (r.castLE (by decide)))) := by
  unfold extractStridedSlice
  have hj : (fun a => ⟨(fun _ => 0) a + ((ix2 b r : S32x4.Idx) (Fin.cast (by rfl) a)).val, by
      match a with
      | ⟨0, _⟩ => exact (by omega : 0 + b.val < 32)
      | ⟨1, _⟩ => exact (by omega : 0 + r.val < 32)⟩ : S32x32.Idx) = ix2 b (r.castLE (by decide)) := by
    funext c; apply Fin.ext
    match c with
    | ⟨0, _⟩ => exact Nat.zero_add _
    | ⟨1, _⟩ => exact Nat.zero_add _
  have hA : ((ix2 b (r.castLE (by decide : 4 ≤ 32)) : S32x32.Idx).along ⟨1, h1⟩ : Fin 32 → S32x32.Idx) = fun a => ix2 b a := by
    funext a c
    match c with
    | ⟨0, _⟩ => rfl
    | ⟨1, _⟩ => rfl
  show y _ = _
  rw [hj]
  simp only [gt_decide]
  exact congrArg (fun A : Fin 32 → S32x32.Idx => y (A (sortedFrom (fun k k' => decide (x (A k') < x (A k))) (r.castLE (by decide))))) hA

/-- The sorted scores. -/
theorem topk_values (x : FVec Ideal S32x32 .f32) (b : Fin 32) (r : Fin 4) :
    (Host.topK S32x4 1 (FloatOps.cmpfTotal (F := Ideal) .gt) x sliceFits_S32x32_S32x4).1 (ix2 b r)
      = x (ix2 b (sortedFrom (fun a a' => decide (x (ix2 b a') < x (ix2 b a))) (r.castLE (by decide)))) := by
  unfold Host.topK Host.sort2
  simp only [show (1 : ℕ) < S32x32.rank from by decide, dite_true]
  exact sorted_at x x b r _ _

/-- The states in the order of their scores. -/
theorem topk_indices (x : FVec Ideal S32x32 .f32) (b : Fin 32) (r : Fin 4) :
    (Host.topK S32x4 1 (FloatOps.cmpfTotal (F := Ideal) .gt) x sliceFits_S32x32_S32x4).2 (ix2 b r)
      = BitVec.ofNat 32 (sortedFrom (fun a a' => decide (x (ix2 b a') < x (ix2 b a))) (r.castLE (by decide : 4 ≤ 32))).val := by
  unfold Host.topK Host.sort2
  simp only [show (1 : ℕ) < S32x32.rank from by decide, dite_true]
  exact sorted_at x (iotaInDim S32x32 32 ⟨1, _⟩) b r _ _

/-- The arguments a state carries, with the memory's first content beside them. -/
def argsOf (M0 : Fin 64 → Fin 64 → EReal) (s : State Ideal) : Args where
  X t b i := s.main_v4_0 (ix3 t b i)
  M0 := M0
  Wk j i := s.main_v4_3 (ix2 j i)
  bk j := s.main_v4_4 (ix1 j)
  Wv j i := s.main_v4_5 (ix2 j i)
  bv j := s.main_v4_6 (ix1 j)
  Wg j i := s.main_v4_1 (ix2 j i)
  bg j := s.main_v4_2 (ix1 j)
  Wq j i := s.main_v4_8 (ix2 j i)
  bq j := s.main_v4_9 (ix1 j)

/-- The slots written, the shared one first. -/
def slots (A : Args) (t : Fin 16) (b : Fin 32) (k : Fin 5) : Fin 33 := Fin.cases 0 (slot A t b) k

/-- Indices with equal coordinates are equal. -/
theorem ix3_of {n0 n1 n2 : ℕ} {a a' : Fin n0} {b b' : Fin n1} {c c' : Fin n2} (ha : a = a') (hb : b = b') (hc : c = c') :
    ix3 a b c = ix3 a' b' c' := by rw [ha, hb, hc]

/-- Indices with equal coordinates are equal. -/
theorem ix2_of {n0 n1 : ℕ} {a a' : Fin n0} {b b' : Fin n1} (ha : a = a') (hb : b = b') : ix2 a b = ix2 a' b' := by
  rw [ha, hb]

/-- A slot's number is not negative, so the wrap of negative numbers leaves it. -/
theorem wrap33 (n : Fin 33) : Scalar.select (IntOp.cmpi .slt (BitVec.ofNat 32 n.val) 0#32)
    (IntOp.addi (BitVec.ofNat 32 n.val) 33#32) (BitVec.ofNat 32 n.val) = BitVec.ofNat 32 n.val := by
  revert n; decide

/-- So with a row's number. -/
theorem wrap32 (n : Fin 32) : Scalar.select (IntOp.cmpi .slt (BitVec.ofNat 32 n.val) 0#32)
    (IntOp.addi (BitVec.ofNat 32 n.val) 32#32) (BitVec.ofNat 32 n.val) = BitVec.ofNat 32 n.val := by
  revert n; decide

/-- A slot's number lies in the table. -/
theorem inside33 (n : Fin 33) : IntOp.andi (IntOp.cmpi .sge (BitVec.ofNat 32 n.val) 0#32)
    (IntOp.cmpi .sle (BitVec.ofNat 32 n.val) 32#32) = 1#1 := by
  revert n; decide

/-- A slot's number as an integer. -/
theorem toInt33 (n : Fin 33) : (BitVec.ofNat 32 n.val).toInt = n.val := by
  revert n; decide

/-- The next state's number. -/
theorem succ32 (m : Fin 32) : IntOp.addi (BitVec.ofNat 32 m.val) 1#32 = BitVec.ofNat 32 m.succ.val := by
  revert m; decide

/-- The number of a step as an integer. -/
theorem toInt16 (t : Fin 16) : (BitVec.ofNat 32 t.val).toInt = t.val := by
  revert t; decide

/-- The word of minus infinity. -/
theorem ofBits_bot : Ideal.ofBits .f32 0xFF800000#32 = ⊥ := by simp [Ideal.ofBits, Ideal.ieee]

variable (M0 : Fin 64 → Fin 64 → EReal) (s : State Ideal) (t : Fin 16)

/-- The step's row of the input. -/
theorem b3_at (b : Fin 32) (i : Fin 1024) : b3 t.val s (ix2 b i) = s.main_v4_0 (ix3 t b i) := by
  pointwise [b3, b2]
  have h0 : Host.clampedStart S16x32x1024 S1x32x1024 rfl (fun k => BitVec.toInt
      ((![constantI S_ 32 (BitVec.ofNat 32 t.val), b0 t.val s, b1 t.val s] : Fin 3 → IVec S_ 32) k (Shape.Idx.first h_S_))) 0 = t.val :=
    Host.clampedStart_of_le _ _ _ _ (toInt16 t) (by have := t.isLt; show t.val + 1 ≤ 16; omega)
  have h1 : Host.clampedStart S16x32x1024 S1x32x1024 rfl (fun k => BitVec.toInt
      ((![constantI S_ 32 (BitVec.ofNat 32 t.val), b0 t.val s, b1 t.val s] : Fin 3 → IVec S_ 32) k (Shape.Idx.first h_S_))) 1 = 0 :=
    Host.clampedStart_of_le _ _ _ 0 rfl (by decide)
  have h2 : Host.clampedStart S16x32x1024 S1x32x1024 rfl (fun k => BitVec.toInt
      ((![constantI S_ 32 (BitVec.ofNat 32 t.val), b0 t.val s, b1 t.val s] : Fin 3 → IVec S_ 32) k (Shape.Idx.first h_S_))) 2 = 0 :=
    Host.clampedStart_of_le _ _ _ 0 rfl (by decide)
  exact congrArg s.main_v4_0 (ix3_of (Fin.ext h0) (Fin.ext (by show _ + b.val = b.val; rw [h1]; omega))
    (Fin.ext (by show _ + i.val = i.val; rw [h2]; omega)))

/-- The logits. -/
theorem b8_at (b m : Fin 32) : b8 t.val s (ix2 b m) = logit (argsOf M0 s) t b m := by
  pointwise [b8, b7, b6, b5, b4, b3_at, logit, argsOf]

/-- The row's largest. -/
theorem b13_at (b : Fin 32) : b13 t.val s (ix1 b) = top (argsOf M0 s) t b := by
  pointwise [b13, b12, b11, b10, b9, b8_at M0, top]
  rw [ofBits_bot]
  exact bot_sup_eq _

/-- The scores. -/
theorem b22_at (b m : Fin 32) : b22 t.val s (ix2 b m) = score (argsOf M0 s) t b m := by
  pointwise [b22, b21, b20, b19, b18, b17, b16, b15, b14, b8_at M0, b13_at M0, score, expo]

/-- The best scores. -/
theorem b23_at (b : Fin 32) (r : Fin 4) : b23 t.val s (ix2 b r) = score (argsOf M0 s) t b (best (argsOf M0 s) t b r) := by
  unfold b23
  rw [topk_values]
  simp only [b22_at M0]
  rfl

/-- The best states. -/
theorem b24_at (b : Fin 32) (r : Fin 4) : b24 t.val s (ix2 b r) = BitVec.ofNat 32 (best (argsOf M0 s) t b r).val := by
  unfold b24
  rw [topk_indices]
  simp only [b22_at M0]
  rfl

/-- The gates. -/
theorem b35_at (b : Fin 32) (r : Fin 4) : b35 t.val s (ix2 b r) = gate (argsOf M0 s) t b r := by
  pointwise [b35, b34, b33, b32, b31, b23_at M0, gate]

/-- The slots of the best states. -/
theorem b27_at (b : Fin 32) (r : Fin 4) : b27 t.val s (ix2 b r) = BitVec.ofNat 32 (slot (argsOf M0 s) t b r).val := by
  pointwise [b27, b26, b25, b24_at M0, slot]
  exact succ32 _

/-- The slots written. -/
theorem b30_at (b : Fin 32) (k : Fin 5) : b30 t.val s (ix2 b k) = BitVec.ofNat 32 (slots (argsOf M0 s) t b k).val := by
  pointwise [b30, b29, b28, b27_at M0, slots]
  refine Fin.cases ?_ (fun r => ?_) k
  · rfl
  · rw [dif_neg (by simp)]; rfl

/-- The slots written, wrapped. -/
theorem b61_at (b : Fin 32) (k : Fin 5) : b61 t.val s (ix3 b k 0) = BitVec.ofNat 32 (slots (argsOf M0 s) t b k).val := by
  pointwise [b61, b60, b59, b58, b57, b56, b55, b54, b53, b30_at M0]
  exact wrap33 _

/-- They lie in the table. -/
theorem b71_at (b : Fin 32) (k : Fin 5) : b71 t.val s (ix2 b k) = 1#1 := by
  pointwise [b71, b70, b69, b68, b67, b66, b65, b64, b63, b62]
  rw [Finset.fold_congr (g := fun _ => 1#1) fun x _ => by rw [Subsingleton.elim x 0, b61_at (fun _ _ => 0), inside33]]
  rfl

/-- The outer products. -/
theorem b52_at (b : Fin 32) (n : Fin 33) (d e : Fin 64) :
    b52 t.val s (ix4 b n d e) = key (argsOf M0 s) t b n d * val (argsOf M0 s) t b n e := by
  pointwise [b52, b51, b50, b49, b48, b47, b46, b45, b44, b43, b42, b41, b40, b39, b38, b37, b36, b3_at, key, val, argsOf]
  rfl

/-- The outer products that are written. -/
theorem b76_at (b : Fin 32) (k : Fin 5) (d e : Fin 64) : b76 t.val s (ix4 b k d e)
    = key (argsOf M0 s) t b (slots (argsOf M0 s) t b k) d * val (argsOf M0 s) t b (slots (argsOf M0 s) t b k) e := by
  have h72 : b72 t.val s (ix4 b k d e) = b52 t.val s (ix4 b (slots (argsOf M0 s) t b k) d e) :=
    gather5 _ _ _ _ _ _ _ ((congrArg BitVec.toInt (b61_at M0 s t b k)).trans (toInt33 _))
  pointwise [b76, b73, b71_at, h72, b52_at M0]

/-- The row an update goes to. -/
theorem b94_row (b : Fin 32) (k : Fin 5) : b94 t.val s (ix3 b k 0) = BitVec.ofNat 32 b.val := by
  pointwise [b94, b92, b91, b83, b82, b81, b80, b79, b78, b77, K_main_v1, K_main_v0]
  exact wrap32 _

/-- The slot an update goes to. -/
theorem b94_slot (b : Fin 32) (k : Fin 5) : b94 t.val s (ix3 b k 1) = BitVec.ofNat 32 (slots (argsOf M0 s) t b k).val := by
  pointwise [b94, b93, b90, b89, b88, b87, b86, b85, b84, b30_at M0]
  exact wrap33 _

/-- The slots of the best states, wrapped. -/
theorem b104_at (b : Fin 32) (k : Fin 4) : b104 t.val s (ix3 b k 0) = BitVec.ofNat 32 (slot (argsOf M0 s) t b k).val := by
  pointwise [b104, b103, b102, b101, b100, b99, b98, b97, b96, b27_at M0]
  exact wrap33 _

/-- They lie in the table. -/
theorem b114_at (b : Fin 32) (k : Fin 4) : b114 t.val s (ix2 b k) = 1#1 := by
  pointwise [b114, b113, b112, b111, b110, b109, b108, b107, b106, b105]
  rw [Finset.fold_congr (g := fun _ => 1#1) fun x _ => by rw [Subsingleton.elim x 0, b104_at (fun _ _ => 0), inside33]]
  rfl

/-- The slots read. -/
theorem b119_at (b : Fin 32) (k : Fin 4) (d e : Fin 64) :
    b119 t.val s (ix4 b k d e) = b95 t.val s (ix4 b (slot (argsOf M0 s) t b k) d e) := by
  have h115 : b115 t.val s (ix4 b k d e) = b95 t.val s (ix4 b (slot (argsOf M0 s) t b k) d e) :=
    gather4 _ _ _ _ _ _ _ ((congrArg BitVec.toInt (b104_at M0 s t b k)).trans (toInt33 _))
  pointwise [b119, b116, b114_at, h115]

/-- The memory read, of the memory written. -/
theorem b127_at (b : Fin 32) (d e : Fin 64) : b127 t.val s (ix3 b d e)
    = (∑ r, b95 t.val s (ix4 b (slot (argsOf M0 s) t b r) d e) * gate (argsOf M0 s) t b r) + b95 t.val s (ix4 b 0 d e) := by
  pointwise [b127, b126, b125, b124, b123, b122, b121, b120, b119_at M0, b35_at M0]

/-- The step's output, of the memory read. -/
theorem b133_at (b : Fin 32) (e : Fin 64) :
    b133 t.val s (ix2 b e) = ∑ d, query (argsOf M0 s) t b d * b127 t.val s (ix3 b d e) := by
  pointwise [b133, b132, b131, b130, b129, b128, b3_at, query, argsOf]

/-- The outputs: the step's own row is new. -/
theorem b137_at (t' : Fin 16) (b : Fin 32) (e : Fin 64) : b137 t.val s (ix3 t' b e)
    = if t' = t then b133 t.val s (ix2 b e) else s.main_v4_12 (ix3 t' b e) := by
  pointwise [b137, b134]
  have h0 : Host.clampedStart S16x32x64 S1x32x64 rfl (fun k => BitVec.toInt
      ((![constantI S_ 32 (BitVec.ofNat 32 t.val), b135 t.val s, b136 t.val s] : Fin 3 → IVec S_ 32) k (Shape.Idx.first h_S_))) 0 = t.val :=
    Host.clampedStart_of_le _ _ _ _ (toInt16 t) (by have := t.isLt; show t.val + 1 ≤ 16; omega)
  have h1 : Host.clampedStart S16x32x64 S1x32x64 rfl (fun k => BitVec.toInt
      ((![constantI S_ 32 (BitVec.ofNat 32 t.val), b135 t.val s, b136 t.val s] : Fin 3 → IVec S_ 32) k (Shape.Idx.first h_S_))) 1 = 0 :=
    Host.clampedStart_of_le _ _ _ 0 rfl (by decide)
  have h2 : Host.clampedStart S16x32x64 S1x32x64 rfl (fun k => BitVec.toInt
      ((![constantI S_ 32 (BitVec.ofNat 32 t.val), b135 t.val s, b136 t.val s] : Fin 3 → IVec S_ 32) k (Shape.Idx.first h_S_))) 2 = 0 :=
    Host.clampedStart_of_le _ _ _ 0 rfl (by decide)
  by_cases h : t' = t
  · rw [if_pos h, dif_pos ⟨⟨by rw [h0, h], by rw [h0, h]; omega⟩, by rw [h1]; omega, by rw [h2]; omega⟩]
    exact congrArg (b133 t.val s) (ix2_of (Fin.ext (by show b.val - _ = b.val; rw [h1]; omega)) (Fin.ext (by show e.val - _ = e.val; rw [h2]; omega)))
  · rw [if_neg h, dif_neg fun hh => h (Fin.ext (by have := hh.1; rw [h0] at this; omega))]

/-- The first slot written is the shared one. -/
theorem slots_zero (A : Args) (b : Fin 32) : slots A t b 0 = 0 := Fin.cases_zero

/-- The others are the best states'. -/
theorem slots_succ (A : Args) (b : Fin 32) (r : Fin 4) : slots A t b r.succ = (best A t b r).succ := Fin.cases_succ r

/-- The slots a step writes differ. -/
theorem slots_injective (A : Args) (b : Fin 32) : Function.Injective (slots A t b) := by
  have hb : Function.Injective (best A t b) := (TopK.ranks_sorted (score A t b) (by decide : 4 ≤ 32)).injective
  intro k k'
  refine Fin.cases ?_ (fun r => ?_) k <;> refine Fin.cases ?_ (fun r' => ?_) k'
  · exact fun _ => rfl
  · rw [slots_zero, slots_succ]
    exact fun h => absurd h.symm (Fin.succ_ne_zero _)
  · rw [slots_zero, slots_succ]
    exact fun h => absurd h (Fin.succ_ne_zero _)
  · rw [slots_succ, slots_succ]
    exact fun h => congrArg Fin.succ (hb (Fin.succ_injective _ h))

/-- A slot is written exactly if it is one of the five. -/
theorem writes_iff (A : Args) (b : Fin 32) (n : Fin 33) : writes A t b n ↔ ∃ k, slots A t b k = n := by
  unfold writes slot
  constructor
  · rintro (h | ⟨r, h⟩)
    · exact ⟨0, (slots_zero t A b).trans h.symm⟩
    · exact ⟨r.succ, (slots_succ t A b r).trans h.symm⟩
  · rintro ⟨k, h⟩
    rcases Fin.eq_zero_or_eq_succ k with rfl | ⟨r, rfl⟩
    · exact Or.inl (h.symm.trans (slots_zero t A b))
    · exact Or.inr ⟨r, h.symm.trans (slots_succ t A b r)⟩

open Classical in
/-- The memory written. -/
theorem b95_at (b : Fin 32) (n : Fin 33) (d e : Fin 64) : b95 t.val s (ix4 b n d e) = s.main_v4_11 (ix4 b n d e)
    + if writes (argsOf M0 s) t b n then key (argsOf M0 s) t b n d * val (argsOf M0 s) t b n e else 0 := by
  have hl : ∀ j : S32x5x64x64.Idx,
      scatter_S32x33x64x64_S32x5x2_S32x5x64x64_23_01_01_2.resultIdx? j (b94 t.val s) = some (ix4 b n d e)
        ↔ ∃ k, slots (argsOf M0 s) t b k = n ∧ j = ix4 b k d e := by
    intro j
    obtain ⟨b', k, d', e', rfl⟩ : ∃ b' k d' e', j = ix4 b' k d' e' := ⟨j 0, j 1, j 2, j 3, eq_ix4 j⟩
    rw [lands, b94_row, b94_slot M0, toInt33]
    have hb : (BitVec.ofNat 32 b'.val).toInt = b'.val := toInt33 b'.castSucc
    rw [hb]
    constructor
    · rintro ⟨h0, h1, rfl, rfl⟩
      obtain rfl : b' = b := Fin.ext (by exact_mod_cast h0)
      exact ⟨k, Fin.ext (by exact_mod_cast h1), rfl⟩
    · rintro ⟨k', h, hj⟩
      have e0 := congrFun hj 0
      have e1 := congrFun hj 1
      have e2 := congrFun hj 2
      have e3 := congrFun hj 3
      obtain rfl : b' = b := e0
      obtain rfl : k = k' := e1
      obtain rfl : d' = d := e2
      obtain rfl : e' = e := e3
      rw [h]
      exact ⟨rfl, rfl, rfl, rfl⟩
  have hs : b95 t.val s (ix4 b n d e) = s.main_v4_11 (ix4 b n d e)
      + ∑ j ∈ Finset.univ.filter (fun j => scatter_S32x33x64x64_S32x5x2_S32x5x64x64_23_01_01_2.resultIdx? j (b94 t.val s) = some (ix4 b n d e)),
          b76 t.val s j := rfl
  rw [hs]
  congr 1
  by_cases h : writes (argsOf M0 s) t b n
  · rw [if_pos h]
    obtain ⟨k, hk⟩ := (writes_iff t _ b n).1 h
    have hf : Finset.univ.filter (fun j => scatter_S32x33x64x64_S32x5x2_S32x5x64x64_23_01_01_2.resultIdx? j (b94 t.val s) = some (ix4 b n d e)) = {ix4 b k d e} := by
      ext j
      rw [Finset.mem_filter, hl, Finset.mem_singleton]
      constructor
      · rintro ⟨-, k', h', rfl⟩
        rw [slots_injective t _ b (h'.trans hk.symm)]
      · rintro rfl
        exact ⟨Finset.mem_univ _, k, hk, rfl⟩
    rw [hf, Finset.sum_singleton, b76_at M0, hk]
  · rw [if_neg h]
    refine Finset.sum_eq_zero fun j hj => ?_
    obtain ⟨k, hk, -⟩ := (hl j).1 (Finset.mem_filter.1 hj).2
    exact absurd ((writes_iff t _ b n).2 ⟨k, hk⟩) h

end Cert.RefStep

end
-- ==== Proof.RefRun.lean ====
/-
  The run of the reference as its one-step function iterated sixteen times.
-/
module

public import proofs.«01_k».proof.Proof.Gen.ReferenceIdeal.Run
public import proofs.«01_k».proof.Proof.Gen.ReferenceIdeal.Step

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state a valuation of the loop's buffers stands for. -/
def stateOf (V : Valuation τ sig (Elt F)) : State F where
  main_v4_11 := V (Proc.devRef .tc main_v4_11)
  main_v4_12 := V (Proc.devRef .tc main_v4_12)
  main_v4_0 := V (Proc.devRef .tc main_v4_0)
  main_v4_1 := V (Proc.devRef .tc main_v4_1)
  main_v4_2 := V (Proc.devRef .tc main_v4_2)
  main_v4_3 := V (Proc.devRef .tc main_v4_3)
  main_v4_4 := V (Proc.devRef .tc main_v4_4)
  main_v4_5 := V (Proc.devRef .tc main_v4_5)
  main_v4_6 := V (Proc.devRef .tc main_v4_6)
  main_v4_8 := V (Proc.devRef .tc main_v4_8)
  main_v4_9 := V (Proc.devRef .tc main_v4_9)

/-- The loop's counter stands at `j` and the row numbers are the ones set up before the loop. -/
structure Stands (V : Valuation τ sig (Elt F)) (j : ℕ) : Prop where
  num : V (Proc.devRef .tc main_v4_10) = constantI S_ 32 (BitVec.ofNat 32 j)
  rows : V (Proc.devRef .tc main_v4_7) = Step.K_main_v1 (F := F)

variable {V : Valuation τ sig (Elt F)} {j : ℕ}

/-- The step's input row. -/
theorem v5 (h : Stands V j) : res_main_while0b_v5 V = Step.b3 j (stateOf V) := by
  unfold res_main_while0b_v5; rw [h.num]; rfl

/-- The logits. -/
theorem v10 (h : Stands V j) : res_main_while0b_v10 V = Step.b8 j (stateOf V) := by
  unfold res_main_while0b_v10; rw [v5 h]; rfl

/-- The exponentials. -/
theorem v17 (h : Stands V j) : res_main_while0b_v17 V = Step.b17 j (stateOf V) := by
  unfold res_main_while0b_v17; rw [v10 h]; rfl

/-- The scores. -/
theorem v21 (h : Stands V j) : res_main_while0b_v21 V = Step.b22 j (stateOf V) := by
  unfold res_main_while0b_v21; rw [v17 h]; rfl

/-- The largest scores. -/
theorem values (h : Stands V j) : res_main_while0b_values V = Step.b23 j (stateOf V) := by
  unfold res_main_while0b_values; rw [v21 h]; rfl

/-- The slots the scores choose. -/
theorem v23 (h : Stands V j) : res_main_while0b_v23 V = Step.b27 j (stateOf V) := by
  unfold res_main_while0b_v23; rw [v21 h]; rfl

/-- The updated slots. -/
theorem v25 (h : Stands V j) : res_main_while0b_v25 V = Step.b30 j (stateOf V) := by
  unfold res_main_while0b_v25; rw [v23 h]; rfl

/-- The slots laid out for the outer products. -/
theorem v47 (h : Stands V j) : res_main_while0b_v47 V = Step.b53 j (stateOf V) := by
  unfold res_main_while0b_v47; rw [v25 h]; rfl

/-- The index table of the first lookup. -/
theorem call1 (h : Stands V j) : res_main_while0b_call1_v5 V = Step.b61 j (stateOf V) := by
  unfold res_main_while0b_call1_v5; rw [v47 h]; rfl

/-- The memory after the step. -/
theorem v63 (h : Stands V j) : res_main_while0b_v63 V = Step.b95 j (stateOf V) := by
  unfold res_main_while0b_v63; rw [v25 h, call1 h, v5 h, h.rows]; rfl

/-- The slots laid out for the readout. -/
theorem v64 (h : Stands V j) : res_main_while0b_v64 V = Step.b96 j (stateOf V) := by
  unfold res_main_while0b_v64; rw [v23 h]; rfl

/-- The index table of the readout. -/
theorem call2 (h : Stands V j) : res_main_while0b_call2_v5 V = Step.b104 j (stateOf V) := by
  unfold res_main_while0b_call2_v5; rw [v64 h]; rfl

/-- The outputs after the step. -/
theorem outs (h : Stands V j) : step_main_v4_12 V = Step.b137 j (stateOf V) := by
  unfold step_main_v4_12; rw [v5 h, call2 h, v63 h, values h, h.num]; rfl

/-- One trip of the loop is one step of the state. -/
theorem stateOf_STEP (h : Stands V j) : stateOf (STEP V) = step j (stateOf V) := by
  have e11 : STEP V (Proc.devRef .tc main_v4_11) = Step.b95 j (stateOf V) := by
    rw [STEP_main_v4_11]; unfold step_main_v4_11; exact v63 h
  have e12 : STEP V (Proc.devRef .tc main_v4_12) = Step.b137 j (stateOf V) := by
    rw [STEP_main_v4_12]; exact outs h
  unfold step
  conv_lhs => unfold stateOf
  rw [e11, e12, STEP_main_v4_0, STEP_main_v4_1, STEP_main_v4_2, STEP_main_v4_3, STEP_main_v4_4, STEP_main_v4_5,
    STEP_main_v4_6, STEP_main_v4_8, STEP_main_v4_9]
  rfl

/-- One trip of the loop steps its counter. -/
theorem stands_STEP (h : Stands V j) : Stands (STEP V) (j + 1) where
  num := by
    rw [STEP_main_v4_10]
    unfold step_main_v4_10
    rw [h.num]
    funext i
    show BitVec.ofNat 32 j + 1#32 = BitVec.ofNat 32 (j + 1)
    simp only [BitVec.ofNat_add]
  rows := (STEP_main_v4_7 V).trans h.rows

variable (m : (ℓ : Loc nD τ sig) → Buf (Elt F) ℓ) (c : Dev nD)

/-- The arguments as the first state. -/
def first : State F :=
  init (m ((c.tc : Thread nD τ).loc main_arg0)) (m ((c.tc : Thread nD τ).loc main_arg6))
    (m ((c.tc : Thread nD τ).loc main_arg7)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg8))
    (m ((c.tc : Thread nD τ).loc main_arg9)) (m ((c.tc : Thread nD τ).loc main_arg1))

/-- The state after `k` steps. -/
def iter (s : State F) : ℕ → State F
  | 0 => s
  | k + 1 => step k (iter s k)

set_option maxHeartbeats 1000000 in
/-- Before the loop the counter stands at nought. -/
theorem entry_stands : Stands (entryContents preI m c) 0 := by
  constructor <;> (simp only [entryContents, afterL_cons, afterL_nil]; after_reads_simp) <;> rfl

set_option maxHeartbeats 1000000 in
/-- Before the loop the buffers stand for the first state. -/
theorem entry_state : stateOf (entryContents preI m c) = first m c := by
  unfold stateOf first init
  congr 1 <;> (simp only [entryContents, afterL_cons, afterL_nil]; after_reads_simp) <;> rfl

/-- Before trip `k` the buffers stand for state `k`. -/
theorem loop_state (k : ℕ) : Stands (STEP^[k] (entryContents preI m c)) k
    ∧ stateOf (STEP^[k] (entryContents preI m c)) = iter (first m c) k := by
  induction k with
  | zero => exact ⟨entry_stands m c, entry_state m c⟩
  | succ k ih =>
    rw [Function.iterate_succ_apply']
    exact ⟨stands_STEP ih.1, (stateOf_STEP ih.1).trans (by rw [ih.2]; rfl)⟩

/-- After `k` trips the outputs are those of state `k`. -/
theorem result_at (k : ℕ) :
    (STEP^[k] (entryContents preI m c)) (Proc.devRef .tc main_v4_12) = (iter (first m c) k).main_v4_12 :=
  congrArg State.main_v4_12 (loop_state m c k).2

/-- Every run ends with the outputs of state sixteen and the arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v4_12) = (iter (first m c) 16).main_v4_12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := F)) _ _).mono (fun _ h c => ⟨(h c).1.trans (result_at m c 16), (h c).2⟩) (Value.run m ρ)

end Cert.RefRun

end
-- ==== Proof.RefValue.lean ====
/- The reference's outputs are the specification's. -/
module

public import proofs.«01_k».proof.Proof.RefStep
public import proofs.«01_k».proof.Proof.RefRun

@[expose] public section

noncomputable section

namespace Cert.RefValue

open Idealize.ShloMosaic
open Cert.ReferenceIdeal Cert.ReferenceIdeal.Gen Cert.ReferenceIdeal.Step Cert.Spec Cert.RefStep Cert.RefRun

open Classical in
/-- Before the first step the memory is its first content. -/
theorem mem_zero (A : Args) (b : Fin 32) (n : Fin 33) (d e : Fin 64) : mem A b 0 n d e = A.M0 d e := by
  unfold mem
  rw [Finset.filter_false_of_mem fun s _ h => absurd h.1 (Nat.not_lt_zero _), Finset.sum_empty, add_zero]

open Classical in
/-- A step adds its outer product to the slots it writes. -/
theorem mem_succ (A : Args) (b : Fin 32) (t : Fin 16) (n : Fin 33) (d e : Fin 64) : mem A b (t.val + 1) n d e
    = mem A b t.val n d e + if writes A t b n then key A t b n d * val A t b n e else 0 := by
  unfold mem
  rw [add_assoc]
  congr 1
  by_cases h : writes A t b n
  · rw [if_pos h, add_comm (Finset.sum _ _) (_ * _),
      ← Finset.sum_insert (f := fun s => key A s b n d * val A s b n e) (a := t)
        (fun h => absurd (Finset.mem_filter.1 h).2.1 (lt_irrefl _))]
    refine Finset.sum_congr (Finset.ext fun s => ?_) fun _ _ => rfl
    rw [Finset.mem_insert, Finset.mem_filter, Finset.mem_filter]
    constructor
    · rintro ⟨hu, hs, hw⟩
      rcases Nat.lt_succ_iff_lt_or_eq.1 hs with hs | hs
      · exact Or.inr ⟨hu, hs, hw⟩
      · exact Or.inl (Fin.ext hs)
    · rintro (rfl | ⟨hu, hs, hw⟩)
      · exact ⟨Finset.mem_univ _, Nat.lt_succ_self _, h⟩
      · exact ⟨hu, Nat.lt_succ_of_lt hs, hw⟩
  · rw [if_neg h, add_zero]
    refine Finset.sum_congr (Finset.ext fun s => ?_) fun _ _ => rfl
    rw [Finset.mem_filter, Finset.mem_filter]
    constructor
    · rintro ⟨hu, hs, hw⟩
      rcases Nat.lt_succ_iff_lt_or_eq.1 hs with hs | hs
      · exact ⟨hu, hs, hw⟩
      · exact absurd (Fin.ext hs ▸ hw) h
    · rintro ⟨hu, hs, hw⟩
      exact ⟨hu, Nat.lt_succ_of_lt hs, hw⟩

variable (M0 : Fin 64 → Fin 64 → EReal) (s : State Ideal)

/-- The arguments stay through the steps. -/
theorem args_iter (k : ℕ) : argsOf M0 (iter s k) = argsOf M0 s := by
  induction k with
  | zero => rfl
  | succ k ih => exact Eq.trans rfl ih

/-- The memory after `k` steps. -/
theorem mem_iter (hs : ∀ b n d e, s.main_v4_11 (ix4 b n d e) = M0 d e) (k : ℕ) (hk : k ≤ 16) (b : Fin 32) (n : Fin 33) (d e : Fin 64) :
    (iter s k).main_v4_11 (ix4 b n d e) = mem (argsOf M0 s) b k n d e := by
  induction k with
  | zero => exact (hs b n d e).trans (mem_zero (argsOf M0 s) b n d e).symm
  | succ k ih =>
    have h := b95_at M0 (iter s k) ⟨k, hk⟩ b n d e
    rw [args_iter, ih (Nat.le_of_succ_le hk)] at h
    exact h.trans (mem_succ _ b ⟨k, hk⟩ n d e).symm

/-- The output of step `t`. -/
theorem out_step (hs : ∀ b n d e, s.main_v4_11 (ix4 b n d e) = M0 d e) (t : Fin 16) (b : Fin 32) (e : Fin 64) :
    b133 t.val (iter s t.val) (ix2 b e) = out (argsOf M0 s) t b e := by
  have hm : ∀ n d, b95 t.val (iter s t.val) (ix4 b n d e) = mem (argsOf M0 s) b (t.val + 1) n d e :=
    fun n d => mem_iter M0 s hs (t.val + 1) t.isLt b n d e
  rw [b133_at M0, args_iter]
  refine Finset.sum_congr rfl fun d _ => ?_
  rw [b127_at M0, args_iter]
  unfold mixed
  simp only [hm]

/-- The outputs after `k` steps. -/
theorem out_iter (hs : ∀ b n d e, s.main_v4_11 (ix4 b n d e) = M0 d e) (k : ℕ) (hk : k ≤ 16) (t : Fin 16) (ht : t.val < k)
    (b : Fin 32) (e : Fin 64) : (iter s k).main_v4_12 (ix3 t b e) = out (argsOf M0 s) t b e := by
  induction k with
  | zero => exact absurd ht (Nat.not_lt_zero _)
  | succ k ih =>
    have h := b137_at (iter s k) ⟨k, hk⟩ t b e
    refine Eq.trans h ?_
    by_cases hc : t = ⟨k, hk⟩
    · rw [if_pos hc, ← hc]
      have hv : k = t.val := (congrArg Fin.val hc).symm
      rw [hv]
      exact out_step M0 s hs t b e
    · rw [if_neg hc]
      exact ih (Nat.le_of_succ_le hk) (lt_of_le_of_ne (Nat.lt_succ_iff.1 ht) fun hh => hc (Fin.ext hh))

/-- The arguments in a memory, read at their indices. -/
def args (m : (ℓ : Loc nD τ sig) → Buf (Elt Ideal) ℓ) (c : Dev nD) : Args where
  X t b i := m ((c.tc : Thread nD τ).loc main_arg0) (ix3 t b i)
  M0 d e := m ((c.tc : Thread nD τ).loc main_arg1) (ix2 d e)
  Wk j i := m ((c.tc : Thread nD τ).loc main_arg2) (ix2 j i)
  bk j := m ((c.tc : Thread nD τ).loc main_arg3) (ix1 j)
  Wv j i := m ((c.tc : Thread nD τ).loc main_arg4) (ix2 j i)
  bv j := m ((c.tc : Thread nD τ).loc main_arg5) (ix1 j)
  Wg j i := m ((c.tc : Thread nD τ).loc main_arg6) (ix2 j i)
  bg j := m ((c.tc : Thread nD τ).loc main_arg7) (ix1 j)
  Wq j i := m ((c.tc : Thread nD τ).loc main_arg8) (ix2 j i)
  bq j := m ((c.tc : Thread nD τ).loc main_arg9) (ix1 j)

/-- The first state's memory. -/
theorem first_mem (m : (ℓ : Loc nD τ sig) → Buf (Elt Ideal) ℓ) (c : Dev nD) (b : Fin 32) (n : Fin 33) (d e : Fin 64) :
    (first m c).main_v4_11 (ix4 b n d e) = (args m c).M0 d e := by
  show A_main_v2 (F := Ideal) (m ((c.tc : Thread nD τ).loc main_arg1)) (ix4 b n d e) = _
  pointwise [A_main_v2, args]

/-- The reference's result. -/
theorem result (m : (ℓ : Loc nD τ sig) → Buf (Elt Ideal) ℓ) (c : Dev nD) (t : Fin 16) (b : Fin 32) (e : Fin 64) :
    (iter (first m c) 16).main_v4_12 (ix3 t b e) = out (args m c) t b e :=
  out_iter (args m c).M0 (first m c) (first_mem m c) 16 le_rfl t t.isLt b e

end Cert.RefValue

end
-- ==== Proof.lean ====
/-
  The claims of this directory.
-/
module

public import proofs.«01_k».proof.Defs
public import proofs.«01_k».proof.Proof.Words
public import proofs.«01_k».proof.Proof.RunIdeal
public import proofs.«01_k».proof.Proof.Finite
public import proofs.«01_k».proof.Proof.RefValue
public import proofs.«01_k».proof.Proof.Gen.Pre_finite
public import Idealize.ShloMosaic.Adequacy
public import Idealize.ShloMosaic.Init

@[expose] public section

set_option maxRecDepth 16384

noncomputable section

namespace Cert.Proof

open Idealize.ShloMosaic Idealize.SL.Sem

/-- The reference runs, leaves its arguments as they were and every semaphore at zero. -/
theorem reference_frame : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩) (Cert.RefRun.run m ρ)

/-- Memories that agree on the argument arrays give the same arguments. -/
theorem args_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    Cert.RefValue.args m' c = Chain.args m c := by
  have e : ∀ {a b : Spec.Args}, a.X = b.X → a.M0 = b.M0 → a.Wk = b.Wk → a.bk = b.bk → a.Wv = b.Wv → a.bv = b.bv →
      a.Wg = b.Wg → a.bg = b.bg → a.Wq = b.Wq → a.bq = b.bq → a = b := by
    intro a b
    cases a
    cases b
    simp only [Spec.Args.mk.injEq]
    exact fun h0 h1 h2 h3 h4 h5 h6 h7 h8 h9 => ⟨h0, h1, h2, h3, h4, h5, h6, h7, h8, h9⟩
  exact e (funext fun t => funext fun b => funext fun i => congrFun h0 (ix3 t b i))
    (funext fun d => funext fun i => congrFun h1 (ix2 d i)) (funext fun j => funext fun i => congrFun h2 (ix2 j i))
    (funext fun j => congrFun h3 (ix1 j)) (funext fun j => funext fun i => congrFun h4 (ix2 j i))
    (funext fun j => congrFun h5 (ix1 j)) (funext fun j => funext fun i => congrFun h6 (ix2 j i))
    (funext fun j => congrFun h7 (ix1 j)) (funext fun j => funext fun i => congrFun h8 (ix2 j i))
    (funext fun j => congrFun h9 (ix1 j))

/-- Where the arguments agree, the reference's result is the kernel's. -/
theorem same (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hA : Spec.Finite (Chain.args m c)) (hargs : Cert.RefValue.args m' c = Chain.args m c) :
    (Cert.RefRun.iter (Cert.RefRun.first m' c) 16).main_v4_12
      = Cert.KernelIdeal.Whole.W8 m ρ c (Proc.devRef .tc Cert.KernelIdeal.main_v0) := by
  funext i
  have e : i = ix3 (i 0) (i 1) (i 2) := (ix3_eta i).symm
  rw [e]
  refine (Cert.RefValue.result m' c (i 0) (i 1) (i 2)).trans ?_
  refine Eq.trans ?_ (Chain.result m ρ c (fun t b j => Spec.score_above hA t b j) (i 0) (i 1) (i 2)).symm
  rw [hargs]
  exact (Spec.fused_eq_out hA _ _ _).symm

/-- On finite arguments (the initial memory apart) kernel and reference end with the same result. -/
theorem equal : @Cert.algebraic_KernelIdeal_ReferenceIdeal_pre_finite Cert.KernelIdeal.Gen.facts Cert.ReferenceIdeal.Gen.facts
    Cert.Pre_finite.Gen.facts := by
  intro m ρ m' ρ' hpre hargs
  refine ⟨fun c => Cert.KernelIdeal.Whole.W8 m ρ c (Proc.devRef .tc Cert.KernelIdeal.main_v0), ?_, ?_⟩
  · exact (θ_run _ _ _).mono (fun r h => h.1) (Cert.KernelIdeal.Whole.run m ρ)
  · refine (θ_run _ _ _).mono (fun r h c => ⟨(h c).1.trans ?_, (h c).2⟩) (Cert.RefRun.run m' ρ')
    obtain ⟨h0, h1, h2, h3, h4, h5, h6, h7, h8, h9⟩ := hargs c
    exact same m ρ m' c (Whether.finite m hpre c) (args_same m m' c h0 h1 h2 h3 h4 h5 h6 h7 h8 h9)

/-- All the claims. -/
theorem claim : Cert.Claim := ⟨Cert.Kernel.Gen.facts, Cert.KernelIdeal.Gen.facts, Cert.ReferenceIdeal.Gen.facts,
  Cert.Pre_finite.Gen.facts,
  Words.frame,
  fun m ρ _ => Cert.KernelIdeal.Whole.frame m ρ,
  fun m ρ _ => Cert.KernelIdeal.Whole.frame m ρ,
  reference_frame,
  fun m ρ _ => reference_frame m ρ trivial,
  trivial,
  equal⟩

end Cert.Proof

end
